-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v65)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S320000x4 : Shape := ⟨2, ![320000, 4]⟩
abbrev S128x3 : Shape := ⟨2, ![128, 3]⟩
abbrev S3 : Shape := ⟨1, ![3]⟩
abbrev S1x3 : Shape := ⟨2, ![1, 3]⟩
abbrev S320000x3 : Shape := ⟨2, ![320000, 3]⟩
abbrev S160x1x2000 : Shape := ⟨3, ![160, 1, 2000]⟩
abbrev S2000x4 : Shape := ⟨2, ![2000, 4]⟩
abbrev S2000x128 : Shape := ⟨2, ![2000, 128]⟩
abbrev S2000x3 : Shape := ⟨2, ![2000, 3]⟩
abbrev S1x1x2000 : Shape := ⟨3, ![1, 1, 2000]⟩
abbrev S2000x1 : Shape := ⟨2, ![2000, 1]⟩
abbrev S2000 : Shape := ⟨1, ![2000]⟩
abbrev S320000 : Shape := ⟨1, ![320000]⟩
abbrev S1 : Shape := ⟨1, ![1]⟩
abbrev S1x1x1 : Shape := ⟨3, ![1, 1, 1]⟩
abbrev S1999 : Shape := ⟨1, ![1999]⟩
abbrev S2 : Shape := ⟨1, ![2]⟩
abbrev S1998 : Shape := ⟨1, ![1998]⟩
abbrev S4 : Shape := ⟨1, ![4]⟩
abbrev S1996 : Shape := ⟨1, ![1996]⟩
abbrev S8 : Shape := ⟨1, ![8]⟩
abbrev S1992 : Shape := ⟨1, ![1992]⟩
abbrev S16 : Shape := ⟨1, ![16]⟩
abbrev S1984 : Shape := ⟨1, ![1984]⟩
abbrev S32 : Shape := ⟨1, ![32]⟩
abbrev S1968 : Shape := ⟨1, ![1968]⟩
abbrev S64 : Shape := ⟨1, ![64]⟩
abbrev S1936 : Shape := ⟨1, ![1936]⟩
abbrev S128 : Shape := ⟨1, ![128]⟩
abbrev S1872 : Shape := ⟨1, ![1872]⟩
abbrev S256 : Shape := ⟨1, ![256]⟩
abbrev S1744 : Shape := ⟨1, ![1744]⟩
abbrev S512 : Shape := ⟨1, ![512]⟩
abbrev S1488 : Shape := ⟨1, ![1488]⟩
abbrev S1024 : Shape := ⟨1, ![1024]⟩
abbrev S976 : Shape := ⟨1, ![976]⟩
abbrev S_ : Shape := ⟨0, ![]⟩
abbrev S320000x1 : Shape := ⟨2, ![320000, 1]⟩

abbrev nBuf : Space → Nat
  | .hbm => 91
  | .vmem => 16
  | .smem => 2
  | _ => 0

abbrev bufTy : (tb : Table) → Fin (tcTables nBuf tb) → BufTy
  | .hbm, ⟨0, _⟩ => ⟨S320000x128, .f32⟩
  | .hbm, ⟨1, _⟩ => ⟨S320000x4, .i32⟩
  | .hbm, ⟨2, _⟩ => ⟨S128x3, .f32⟩
  | .hbm, ⟨3, _⟩ => ⟨S3, .f32⟩
  | .hbm, ⟨4, _⟩ => ⟨S1x3, .f32⟩
  | .hbm, ⟨5, _⟩ => ⟨S320000x3, .f32⟩
  | .hbm, ⟨6, _⟩ => ⟨S320000x4, .i32⟩
  | .hbm, ⟨7, _⟩ => ⟨S160x1x2000, .i32⟩
  | .hbm, ⟨8, _⟩ => ⟨S320000, .i32⟩
  | .hbm, ⟨9, _⟩ => ⟨S320000, .i32⟩
  | .hbm, ⟨10, _⟩ => ⟨S320000, .i32⟩
  | .hbm, ⟨11, _⟩ => ⟨S320000, .i32⟩
  | .hbm, ⟨12, _⟩ => ⟨S160x1x2000, .i32⟩
  | .hbm, ⟨13, _⟩ => ⟨S160x1x2000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000, .i32⟩
  | .hbm, ⟨26, _⟩ => ⟨S_, .i32⟩
  | .hbm, ⟨27, _⟩ => ⟨S320000, .i32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .f32⟩
  | .hbm, ⟨43, _⟩ => ⟨S320000x4, .f32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S320000x4, .f32⟩
  | .hbm, ⟨53, _⟩ => ⟨S_, .f32⟩
  | .hbm, ⟨54, _⟩ => ⟨S320000x4, .f32⟩
  | .hbm, ⟨55, _⟩ => ⟨S_, .i32⟩
  | .hbm, ⟨56, _⟩ => ⟨S320000, .i32⟩
  | .hbm, ⟨57, _⟩ => ⟨S320000, .i1⟩
  | .hbm, ⟨58, _⟩ => ⟨S_, .i32⟩
  | .hbm, ⟨59, _⟩ => ⟨S320000, .i32⟩
  | .hbm, ⟨60, _⟩ => ⟨S320000, .i32⟩
  | .hbm, ⟨61, _⟩ => ⟨S320000, .i32⟩
  | .hbm, ⟨62, _⟩ => ⟨S320000x1, .i32⟩
  | .hbm, ⟨63, _⟩ => ⟨S320000x4, .f32⟩
  | .hbm, ⟨64, _⟩ => ⟨S320000x1, .f32⟩
  | .hbm, ⟨65, _⟩ => ⟨S320000x4, .f32⟩
  | .hbm, ⟨66, _⟩ => ⟨S320000x4, .f32⟩
  | .hbm, ⟨67, _⟩ => ⟨S320000x4, .i32⟩
  | .hbm, ⟨68, _⟩ => ⟨S_, .f32⟩
  | .hbm, ⟨69, _⟩ => ⟨S320000x128, .f32⟩
  | .hbm, ⟨70, _⟩ => ⟨S_, .i32⟩
  | .hbm, ⟨71, _⟩ => ⟨S320000, .i32⟩
  | .hbm, ⟨72, _⟩ => ⟨S320000, .i1⟩
  | .hbm, ⟨73, _⟩ => ⟨S_, .i32⟩
  | .hbm, ⟨74, _⟩ => ⟨S320000, .i32⟩
  | .hbm, ⟨75, _⟩ => ⟨S320000, .i32⟩
  | .hbm, ⟨76, _⟩ => ⟨S320000, .i32⟩
  | .hbm, ⟨77, _⟩ => ⟨S320000x1, .i32⟩
  | .hbm, ⟨78, _⟩ => ⟨S320000x128, .f32⟩
  | .hbm, ⟨79, _⟩ => ⟨S_, .i32⟩
  | .hbm, ⟨80, _⟩ => ⟨S320000, .i32⟩
  | .hbm, ⟨81, _⟩ => ⟨S320000, .i1⟩
  | .hbm, ⟨82, _⟩ => ⟨S_, .i32⟩
  | .hbm, ⟨83, _⟩ => ⟨S320000, .i32⟩
  | .hbm, ⟨84, _⟩ => ⟨S320000, .i32⟩
  | .hbm, ⟨85, _⟩ => ⟨S320000, .i32⟩
  | .hbm, ⟨86, _⟩ => ⟨S320000x1, .i32⟩
  | .hbm, ⟨87, _⟩ => ⟨S320000x128, .f32⟩
  | .hbm, ⟨88, _⟩ => ⟨S320000x1, .f32⟩
  | .hbm, ⟨89, _⟩ => ⟨S320000x128, .f32⟩
  | .hbm, ⟨90, _⟩ => ⟨S320000x128, .f32⟩
  | .local _ .vmem, ⟨0, _⟩ => ⟨S2000x4, .i32⟩
  | .local _ .vmem, ⟨1, _⟩ => ⟨S2000x4, .i32⟩
  | .local _ .vmem, ⟨2, _⟩ => ⟨S2000x128, .f32⟩
  | .local _ .vmem, ⟨3, _⟩ => ⟨S2000x128, .f32⟩
  | .local _ .vmem, ⟨4, _⟩ => ⟨S128x3, .f32⟩
  | .local _ .vmem, ⟨5, _⟩ => ⟨S1x3, .f32⟩
  | .local _ .vmem, ⟨6, _⟩ => ⟨S2000x3, .f32⟩
  | .local _ .vmem, ⟨7, _⟩ => ⟨S2000x3, .f32⟩
  | .local _ .vmem, ⟨8, _⟩ => ⟨S2000x4, .i32⟩
  | .local _ .vmem, ⟨9, _⟩ => ⟨S2000x4, .i32⟩
  | .local _ .vmem, ⟨10, _⟩ => ⟨S1x1x2000, .i32⟩
  | .local _ .vmem, ⟨11, _⟩ => ⟨S1x1x2000, .i32⟩
  | .local _ .vmem, ⟨12, _⟩ => ⟨S1x1x2000, .i32⟩
  | .local _ .vmem, ⟨13, _⟩ => ⟨S1x1x2000, .i32⟩
  | .local _ .vmem, ⟨14, _⟩ => ⟨S1x1x2000, .i32⟩
  | .local _ .vmem, ⟨15, _⟩ => ⟨S1x1x2000, .i32⟩
  | .local _ .smem, ⟨0, _⟩ => ⟨S1, .i32⟩
  | .local _ .smem, ⟨1, _⟩ => ⟨S1, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_scratch0 : Ref sig .tc := ⟨.smem, 0, rfl⟩
abbrev cc1_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2000 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![160], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S320000x128 : Shape := ⟨2, ![320000, 128]⟩
abbrev S320000x4 : Shape := ⟨2, ![320000, 4]⟩
abbrev S128x3 : Shape := ⟨2, ![128, 3]⟩
abbrev S3 : Shape := ⟨1, ![3]⟩
abbrev S320000x3 : Shape := ⟨2, ![320000, 3]⟩
abbrev S1x3 : Shape := ⟨2, ![1, 3]⟩
abbrev S_ : Shape := ⟨0, ![]⟩
abbrev S320000x1 : Shape := ⟨2, ![320000, 1]⟩
abbrev S320000 : Shape := ⟨1, ![320000]⟩
abbrev S1x320000 : Shape := ⟨2, ![1, 320000]⟩
abbrev S319999 : Shape := ⟨1, ![319999]⟩
abbrev S1 : Shape := ⟨1, ![1]⟩

abbrev nBuf : Space → Nat
  | .hbm => 217
  | .vmem => 0
  | .smem => 0
  | _ => 0

abbrev hbmTy0_0 (i : Nat) : BufTy := match i % 128 with
  | 0 => ⟨S320000x128, .f32⟩
  | 1 => ⟨S320000x4, .i32⟩
  | 2 => ⟨S128x3, .f32⟩
  | 3 => ⟨S3, .f32⟩
  | 4 => ⟨S320000x3, .f32⟩
  | 5 => ⟨S1x3, .f32⟩
  | 6 => ⟨S320000x3, .f32⟩
  | 7 => ⟨S320000x3, .f32⟩
  | 8 => ⟨S_, .i32⟩
  | 9 => ⟨S320000x1, .i32⟩
  | 10 => ⟨S320000x3, .i32⟩
  | 11 => ⟨S320000x4, .i32⟩
  | 12 => ⟨S320000x4, .i32⟩
  | 13 => ⟨S_, .i32⟩
  | 14 => ⟨S320000x4, .i32⟩
  | 15 => ⟨S320000x4, .i32⟩
  | 16 => ⟨S320000x1, .i32⟩
  | 17 => ⟨S320000, .i32⟩
  | 18 => ⟨S_, .i32⟩
  | 19 => ⟨S320000, .i32⟩
  | 20 => ⟨S320000, .i32⟩
  | 21 => ⟨S320000x1, .i32⟩
  | 22 => ⟨S320000, .i32⟩
  | 23 => ⟨S320000, .i32⟩
  | 24 => ⟨S_, .i32⟩
  | 25 => ⟨S320000, .i32⟩
  | 26 => ⟨S320000, .i32⟩
  | 27 => ⟨S320000x1, .i32⟩
  | 28 => ⟨S320000, .i32⟩
  | 29 => ⟨S320000, .i32⟩
  | 30 => ⟨S_, .i32⟩
  | 31 => ⟨S320000, .i32⟩
  | 32 => ⟨S320000, .i32⟩
  | 33 => ⟨S320000x1, .i32⟩
  | 34 => ⟨S320000, .i32⟩
  | 35 => ⟨S320000, .i32⟩
  | 36 => ⟨S320000x1, .i32⟩
  | 37 => ⟨S1x320000, .i32⟩
  | 38 => ⟨S1x320000, .i32⟩
  | 39 => ⟨S1x320000, .i32⟩
  | 40 => ⟨S320000, .i32⟩
  | 41 => ⟨S320000, .i32⟩
  | 42 => ⟨S320000, .i32⟩
  | 43 => ⟨S320000, .i32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .i32⟩
  | 53 => ⟨S_, .i1⟩
  | 54 => ⟨S320000, .i1⟩
  | 55 => ⟨S319999, .i32⟩
  | 56 => ⟨S319999, .i32⟩
  | 57 => ⟨S319999, .i1⟩
  | 58 => ⟨S_, .i1⟩
  | 59 => ⟨S319999, .i1⟩
  | 60 => ⟨S_, .i32⟩
  | 61 => ⟨S1, .i32⟩
  | 62 => ⟨S320000, .i1⟩
  | 63 => ⟨S320000, .i32⟩
  | 64 => ⟨S_, .i32⟩
  | 65 => ⟨S_, .i32⟩
  | 66 => ⟨S320000, .i32⟩
  | 67 => ⟨S_, .i32⟩
  | 68 => ⟨S320000, .i32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S_, .i32⟩
  | 78 => ⟨S320000, .i32⟩
  | 79 => ⟨S320000, .i32⟩
  | 80 => ⟨S_, .i32⟩
  | 81 => ⟨S_, .i32⟩
  | 82 => ⟨S320000, .i32⟩
  | 83 => ⟨S_, .i32⟩
  | 84 => ⟨S_, .i32⟩
  | 85 => ⟨S320000, .i32⟩
  | 86 => ⟨S320000, .i32⟩
  | 87 => ⟨S320000, .i32⟩
  | 88 => ⟨S_, .i32⟩
  | 89 => ⟨S320000, .i32⟩
  | 90 => ⟨S320000, .i1⟩
  | 91 => ⟨S320000, .i32⟩
  | 92 => ⟨S320000, .i32⟩
  | 93 => ⟨S_, .i32⟩
  | 94 => ⟨S320000, .i32⟩
  | 95 => ⟨S320000, .i1⟩
  | 96 => ⟨S320000, .i1⟩
  | 97 => ⟨S_, .i32⟩
  | 98 => ⟨S320000, .i32⟩
  | 99 => ⟨S320000, .i32⟩
  | 100 => ⟨S320000, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S320000, .i32⟩
  | 108 => ⟨S320000, .i32⟩
  | 109 => ⟨S_, .i32⟩
  | 110 => ⟨S320000, .i32⟩
  | 111 => ⟨S320000, .i1⟩
  | 112 => ⟨S_, .i32⟩
  | 113 => ⟨S320000, .i32⟩
  | 114 => ⟨S320000, .i1⟩
  | 115 => ⟨S_, .i32⟩
  | 116 => ⟨S_, .i1⟩
  | 117 => ⟨S320000, .i1⟩
  | 118 => ⟨S320000, .i1⟩
  | 119 => ⟨S320000, .i1⟩
  | 120 => ⟨S320000, .i32⟩
  | 121 => ⟨S320000, .i32⟩
  | 122 => ⟨S320000, .i32⟩
  | 123 => ⟨S320000, .i32⟩
  | 124 => ⟨S_, .i32⟩
  | 125 => ⟨S_, .i32⟩
  | 126 => ⟨S1, .i32⟩
  | 127 => ⟨S320000, .i32⟩
  | _ => ⟨S320000x128, .f32⟩

abbrev hbmTy0_1 (i : Nat) : BufTy := match i % 128 with
  | 0 => ⟨S320000, .i32⟩
  | 1 => ⟨S320000, .i1⟩
  | 2 => ⟨S_, .i32⟩
  | 3 => ⟨S_, .i32⟩
  | 4 => ⟨S320000, .i32⟩
  | 5 => ⟨S320000, .i32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000, .i32⟩
  | 15 => ⟨S320000, .i32⟩
  | 16 => ⟨S320000, .i32⟩
  | 17 => ⟨S_, .i32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S_, .i32⟩
  | 26 => ⟨S_, .i32⟩
  | 27 => ⟨S320000, .i32⟩
  | 28 => ⟨S_, .i32⟩
  | 29 => ⟨S320000, .i32⟩
  | 30 => ⟨S320000, .i32⟩
  | 31 => ⟨S_, .i32⟩
  | 32 => ⟨S320000, .i32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .i32⟩
  | 42 => ⟨S_, .i32⟩
  | 43 => ⟨S320000, .i32⟩
  | 44 => ⟨S_, .i32⟩
  | 45 => ⟨S_, .i32⟩
  | 46 => ⟨S320000, .i32⟩
  | 47 => ⟨S320000, .i32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S_, .i32⟩
  | 57 => ⟨S320000, .i32⟩
  | 58 => ⟨S320000, .i32⟩
  | 59 => ⟨S_, .i32⟩
  | 60 => ⟨S320000, .i32⟩
  | 61 => ⟨S320000, .i32⟩
  | 62 => ⟨S320000, .f32⟩
  | 63 => ⟨S320000x4, .f32⟩
  | 64 => ⟨S_, .f32⟩
  | 65 => ⟨S320000x4, .f32⟩
  | 66 => ⟨S320000x1, .i32⟩
  | 67 => ⟨S320000x4, .f32⟩
  | 68 => ⟨S320000x1, .f32⟩
  | 69 => ⟨S320000x4, .f32⟩
  | 70 => ⟨S320000x4, .f32⟩
  | 71 => ⟨S320000x4, .i32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000, .i32⟩
  | 81 => ⟨S320000x1, .i32⟩
  | 82 => ⟨S320000x1, .f32⟩
  | 83 => ⟨S320000x128, .f32⟩
  | 84 => ⟨S320000x128, .f32⟩
  | 85 => ⟨S_, .f32⟩
  | 86 => ⟨S320000x128, .f32⟩
  | 87 => ⟨S320000x1, .i32⟩
  | 88 => ⟨S320000x128, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3_0 : Ref sig .tc := ⟨.hbm, 42, rfl⟩
abbrev main_v27_2 : Ref sig .tc := ⟨.hbm, 43, rfl⟩
abbrev main_call0_c : Ref sig .tc := ⟨.hbm, 44, rfl⟩
abbrev main_call0_v4 : Ref sig .tc := ⟨.hbm, 45, rfl⟩
abbrev main_call0_v5 : Ref sig .tc := ⟨.hbm, 46, rfl⟩
abbrev main_call0_c_0 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_v27_0 : Ref sig .tc := ⟨.hbm, 52, rfl⟩
abbrev main_call0_c_1 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_c_2 : Ref sig .tc := ⟨.hbm, 58, rfl⟩
abbrev main_call0_v15 : Ref sig .tc := ⟨.hbm, 59, rfl⟩
abbrev main_call0_c_3 : Ref sig .tc := ⟨.hbm, 60, rfl⟩
abbrev main_call0_v16 : Ref sig .tc := ⟨.hbm, 61, rfl⟩
abbrev main_v27_1 : Ref sig .tc := ⟨.hbm, 62, rfl⟩
abbrev main_call1_v0 : Ref sig .tc := ⟨.hbm, 63, rfl⟩
abbrev main_call1_call0_c : Ref sig .tc := ⟨.hbm, 64, rfl⟩
abbrev main_call1_call0_v0 : Ref sig .tc := ⟨.hbm, 65, rfl⟩
abbrev main_v28 : Ref sig .tc := ⟨.hbm, 66, rfl⟩
abbrev main_c_4 : Ref sig .tc := ⟨.hbm, 67, rfl⟩
abbrev main_v29 : Ref sig .tc := ⟨.hbm, 68, rfl⟩
abbrev main_c_5 : Ref sig .tc := ⟨.hbm, 69, rfl⟩
abbrev main_v30 : Ref sig .tc := ⟨.hbm, 70, rfl⟩
abbrev main_v31 : Ref sig .tc := ⟨.hbm, 71, rfl⟩
abbrev main_c_6 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_7 : Ref sig .tc := ⟨.hbm, 77, rfl⟩
abbrev main_v36 : Ref sig .tc := ⟨.hbm, 78, rfl⟩
abbrev main_v37 : Ref sig .tc := ⟨.hbm, 79, rfl⟩
abbrev main_call2_call0_c : Ref sig .tc := ⟨.hbm, 80, rfl⟩
abbrev main_call2_call0_v0 : Ref sig .tc := ⟨.hbm, 81, rfl⟩
abbrev main_v38 : Ref sig .tc := ⟨.hbm, 82, rfl⟩
abbrev main_c_8 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v39 : Ref sig .tc := ⟨.hbm, 100, rfl⟩
abbrev main_c_9 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_c_1 : Ref sig .tc := ⟨.hbm, 109, rfl⟩
abbrev main_call4_v5 : Ref sig .tc := ⟨.hbm, 110, rfl⟩
abbrev main_call4_v6 : Ref sig .tc := ⟨.hbm, 111, rfl⟩
abbrev main_call4_c_2 : Ref sig .tc := ⟨.hbm, 112, rfl⟩
abbrev main_call4_v7 : Ref sig .tc := ⟨.hbm, 113, rfl⟩
abbrev main_call4_v8 : Ref sig .tc := ⟨.hbm, 114, rfl⟩
abbrev main_call4_c_3 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_v40 : Ref sig .tc := ⟨.hbm, 122, rfl⟩
abbrev main_v41 : Ref sig .tc := ⟨.hbm, 123, rfl⟩
abbrev main_c_10 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_c_11 : Ref sig .tc := ⟨.hbm, 130, rfl⟩
abbrev main_call5_v0 : Ref sig .tc := ⟨.hbm, 131, rfl⟩
abbrev main_call5_v1 : Ref sig .tc := ⟨.hbm, 132, rfl⟩
abbrev main_v47 : Ref sig .tc := ⟨.hbm, 133, rfl⟩
abbrev main_c_12 : Ref sig .tc := ⟨.hbm, 134, rfl⟩
abbrev main_v48 : Ref sig .tc := ⟨.hbm, 135, rfl⟩
abbrev main_v49 : Ref sig .tc := ⟨.hbm, 136, rfl⟩
abbrev main_c_13 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_c_14 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_c_15 : Ref sig .tc := ⟨.hbm, 149, rfl⟩
abbrev main_call6_v0 : Ref sig .tc := ⟨.hbm, 150, rfl⟩
abbrev main_v60 : Ref sig .tc := ⟨.hbm, 151, rfl⟩
abbrev main_call7_v0 : Ref sig .tc := ⟨.hbm, 152, rfl⟩
abbrev main_call7_call0_c : Ref sig .tc := ⟨.hbm, 153, rfl⟩
abbrev main_call7_call0_v0 : Ref sig .tc := ⟨.hbm, 154, rfl⟩
abbrev main_v61 : Ref sig .tc := ⟨.hbm, 155, rfl⟩
abbrev main_c_16 : Ref sig .tc := ⟨.hbm, 156, rfl⟩
abbrev main_v62 : Ref sig .tc := ⟨.hbm, 157, rfl⟩
abbrev main_v63 : Ref sig .tc := ⟨.hbm, 158, rfl⟩
abbrev main_c_17 : Ref sig .tc := ⟨.hbm, 159, rfl⟩
abbrev main_v64 : Ref sig .tc := ⟨.hbm, 160, rfl⟩
abbrev main_c_18 : Ref sig .tc := ⟨.hbm, 161, rfl⟩
abbrev main_v65 : Ref sig .tc := ⟨.hbm, 162, rfl⟩
abbrev main_v66 : Ref sig .tc := ⟨.hbm, 163, rfl⟩
abbrev main_c_19 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_c_20 : Ref sig .tc := ⟨.hbm, 170, rfl⟩
abbrev main_v72 : Ref sig .tc := ⟨.hbm, 171, rfl⟩
abbrev main_c_21 : Ref sig .tc := ⟨.hbm, 172, rfl⟩
abbrev main_call8_v0 : Ref sig .tc := ⟨.hbm, 173, rfl⟩
abbrev main_call8_v1 : Ref sig .tc := ⟨.hbm, 174, rfl⟩
abbrev main_v73 : Ref sig .tc := ⟨.hbm, 175, rfl⟩
abbrev main_c_22 : Ref sig .tc := ⟨.hbm, 176, rfl⟩
abbrev main_v74 : Ref sig .tc := ⟨.hbm, 177, rfl⟩
abbrev main_v75 : Ref sig .tc := ⟨.hbm, 178, rfl⟩
abbrev main_c_23 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_c_24 : Ref sig .tc := ⟨.hbm, 184, rfl⟩
abbrev main_v80 : Ref sig .tc := ⟨.hbm, 185, rfl⟩
abbrev main_v81 : Ref sig .tc := ⟨.hbm, 186, rfl⟩
abbrev main_c_25 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_cst : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_c_26 : Ref sig .tc := ⟨.hbm, 200, rfl⟩
abbrev main_v93 : Ref sig .tc := ⟨.hbm, 201, rfl⟩
abbrev main_v94 : Ref sig .tc := ⟨.hbm, 202, rfl⟩
abbrev main_c_27 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_cst_28 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩

abbrev nD : Nat := 1
abbrev τ : Topo := Topo.v7x

variable {F : FTy → Type} [FloatOps F]
-- ==== Proof.KernelIdeal.Head.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The first kernel, `cc0__head_body`: offsets, new coordinates and hashes, block by block

Stated at a parameter `V`, the contents of the core's buffers when the kernel is entered. Per grid point: each input window's
staging buffer holds its block of the array, and the body leaves each output's staging buffer at a named value of the
input blocks (`out0_4` the offsets, `out0_5` the new coordinates, `out0_6` the hashes). -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x3 := Rect.unit (s := S128x3) ![0, 0] S128x3.size inb_S128x3_S128x3_0_0
abbrev r0_2 : Rect S1x3 := Rect.unit (s := S1x3) ![0, 0] S1x3.size inb_S1x3_S1x3_0_0
abbrev r0_3 : Rect S2000x3 := Rect.unit (s := S2000x3) ![0, 0] S2000x3.size inb_S2000x3_S2000x3_0_0
abbrev r0_4 : Rect S2000x4 := Rect.unit (s := S2000x4) ![0, 0] S2000x4.size inb_S2000x4_S2000x4_0_0
abbrev r0_5 : Rect S1x1x2000 := Rect.unit (s := S1x1x2000) ![0, 0, 0] S1x1x2000.size inb_S1x1x2000_S1x1x2000_0_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S2000x4 .i32) (x1 : Vec F S2000x128 .f32) (x2 : Vec F S128x3 .f32) (x3 : Vec F S1x3 .f32) : Vec F S2000x3 .f32 :=
  View.canon [⟨r0_3, k0_pay1 (View.ld x1 r0_0) (View.ld x2 r0_1) (View.ld x3 r0_2)⟩]

/-- Its stores tile the buffer (checked by evaluation), so they cover it. -/
theorem cover0_4 (p0 : Vec F S2000x3 .f32) (y : S2000x3.Idx) :
    ∃ pc ∈ ([⟨r0_3, p0⟩] : List (View.Piece (Elt F) S2000x3 .f32)), y ∈ pc.1.set :=
  View.cover_of_tiled [⟨r0_3, p0⟩] S2000x3.size (by rfl) y

/-- Window 5's staging buffer after the body, from the input windows' blocks: its 1 store as pieces, LAST
    FIRST (Lib/Pipeline/FrameBody.lean `View.canon`; the payloads are the skeleton's). -/
def out0_5 (x0 : Vec F S2000x4 .i32) (x1 : Vec F S2000x128 .f32) (x2 : Vec F S128x3 .f32) (x3 : Vec F S1x3 .f32) : Vec F S2000x4 .i32 :=
  View.canon [⟨r0_4, k0_pay2 (View.ld x1 r0_0) (View.ld x2 r0_1) (View.ld x3 r0_2) (View.ld x0 r0_4)⟩]

/-- Its stores tile the buffer (checked by evaluation), so they cover it. -/
theorem cover0_5 (p0 : Vec F S2000x4 .i32) (y : S2000x4.Idx) :
    ∃ pc ∈ ([⟨r0_4, p0⟩] : List (View.Piece (Elt F) S2000x4 .i32)), y ∈ pc.1.set :=
  View.cover_of_tiled [⟨r0_4, p0⟩] S2000x4.size (by rfl) y

/-- Window 6's staging buffer after the body, from the input windows' blocks: its 1 store as pieces, LAST
    FIRST (Lib/Pipeline/FrameBody.lean `View.canon`; the payloads are the skeleton's). -/
def out0_6 (x0 : Vec F S2000x4 .i32) (x1 : Vec F S2000x128 .f32) (x2 : Vec F S128x3 .f32) (x3 : Vec F S1x3 .f32) : Vec F S1x1x2000 .i32 :=
  View.canon [⟨r0_5, k0_pay3 (View.ld x1 r0_0) (View.ld x2 r0_1) (View.ld x3 r0_2) (View.ld x0 r0_4)⟩]

/-- Its stores tile the buffer (checked by evaluation), so they cover it. -/
theorem cover0_6 (p0 : Vec F S1x1x2000 .i32) (y : S1x1x2000.Idx) :
    ∃ pc ∈ ([⟨r0_5, p0⟩] : List (View.Piece (Elt F) S1x1x2000 .i32)), y ∈ pc.1.set :=
  View.cover_of_tiled [⟨r0_5, p0⟩] S1x1x2000.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2000x4 .i32) (harg1 : arg1.IsWhole) (arg2 : Memref sig .tc .vmem S2000x128 .f32) (harg2 : arg2.IsWhole) (arg3 : Memref sig .tc .vmem S128x3 .f32) (harg3 : arg3.IsWhole) (arg4 : Memref sig .tc .vmem S1x3 .f32) (harg4 : arg4.IsWhole) (arg5 : Memref sig .tc .vmem S2000x3 .f32) (harg5 : arg5.IsWhole) (arg6 : Memref sig .tc .vmem S2000x4 .i32) (harg6 : arg6.IsWhole) (arg7 : Memref sig .tc .vmem S1x1x2000 .i32) (harg7 : arg7.IsWhole)
    (x0 : Vec F S2000x4 .i32) (x1 : Vec F S2000x128 .f32) (x2 : Vec F S128x3 .f32) (x3 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__head_body i arg1 harg1 arg2 harg2 arg3 harg3 arg4 harg4 arg5 harg5 arg6 harg6 arg7 harg7) K := by
  simp only [cc0__head_body_eq_skeleton]; unfold cc0__head_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Rank.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

/-! # The second kernel, `cc1__rank_body`: ranks of a sorted list, block by block

Two one-word buffers are carried from one grid point to the next: the last key of the block before (`arg3`) and the
number of groups so far (`arg4`). At the first point the body sets them itself. Stated at a parameter `V`, the contents
of the core's buffers when the kernel is entered. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The window's block -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data over `V` that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What one point computes -/

abbrev r1_0 : Rect S1x1x2000 := Rect.unit (s := S1x1x2000) ![0, 0, 0] S1x1x2000.size inb_S1x1x2000_S1x1x2000_0_0_0
abbrev r1_1 : Rect S1 := Rect.unit (s := S1) ![0] S1.size inb_S1_S1_0
abbrev r1_2 : Rect S1x1x2000 := Rect.unit (s := S1x1x2000) ![0, 0, 0] S1x1x1.size inb_S1x1x2000_S1x1x1_0_0_0

/-- The ranks of a block of keys `s` whose predecessor key is `p` and before which `q` groups were seen. -/
def rankBlk (s : Vec F S1x1x2000 .i32) (p q : BitVec 32) : Vec F S1x1x2000 .i32 :=
  k1_pay2 (F := F) (k1_pay6 (F := F) s p) 0#32 q
/-- The number of groups seen after that block. -/
def cumBlk (s : Vec F S1x1x2000 .i32) (p q : BitVec 32) : BitVec 32 :=
  Scalar.addi (extractAt ![0] (k1_pay3 (F := F) (k1_pay6 (F := F) s p) 0#32 q) inpos_S1_p0) 1#32
/-- The block's last key. -/
def lastBlk (s : Vec F S1x1x2000 .i32) : BitVec 32 := extractAt ![0] (k1_pay4 (k1_pay5 (F := F) s)) inpos_S1_p0
/-- The predecessor key the first point starts from: its first key plus one. -/
def initBlk (s : Vec F S1x1x2000 .i32) : BitVec 32 :=
  Scalar.addi (extractAt ![0, 0, 0] (View.ld (Val := Elt F) s r1_2) inpos_S1x1x1_p0_0_0) 1#32

theorem rank_of {X s : Vec F S1x1x2000 .i32} {P Q p q : BitVec 32} (hX : X = s) (hP : P = p) (hQ : Q = q) :
    k1_pay2 (F := F) (k1_pay6 (F := F) X P) 0#32 Q = rankBlk s p q := by subst hX hP hQ; rfl
theorem cum_of {X s : Vec F S1x1x2000 .i32} {P Q p q : BitVec 32} (hX : X = s) (hP : P = p) (hQ : Q = q) :
    (fun _ : S1.Idx => Scalar.addi (extractAt ![0] (k1_pay3 (F := F) (k1_pay6 (F := F) X P) 0#32 Q) inpos_S1_p0) 1#32) = fun _ => cumBlk s p q := by
  subst hX hP hQ; rfl
theorem last_of {X s : Vec F S1x1x2000 .i32} (hX : X = s) :
    (fun _ : S1.Idx => extractAt ![0] (k1_pay4 (k1_pay5 (F := F) X)) inpos_S1_p0) = fun _ => lastBlk s := by subst hX; rfl
theorem init_of {s : Vec F S1x1x2000 .i32} {X : Vec F S1x1x1 .i32} (h : X = View.ld (Val := Elt F) s r1_2) :
    Scalar.addi (extractAt ![0, 0, 0] X inpos_S1x1x1_p0_0_0) 1#32 = initBlk s := by subst h; rfl

/-- The condition of the body's branch: this is the first point. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (fun t => by
    have ht : t.val < 160 := Nat.lt_of_lt_of_eq t.isLt N_1
    have e0 : (grid1.coords t 0).val = t.val / 1 % 160 := Pipeline.Grid.coords_val t 0 (by decide) rfl
    have e1 : t.val = 0 ↔ t.val % 160 = 0 := by omega
    rw [e1]
    simp only [cond1, e0]
    word_cmp
   : ∀ t : Fin grid1.N, cond1 (grid1.coords t) ↔ t.val = 0)

set_option maxHeartbeats 1000000 in
/-- The body at a point that is not the first. -/
theorem sound_kernel1_B (c : Dev nD) (E : Set ℕ) (i : grid1.Coords) (arg1 : Memref sig .tc .vmem S1x1x2000 .i32) (harg1 : arg1.IsWhole) (arg2 : Memref sig .tc .vmem S1x1x2000 .i32) (harg2 : arg2.IsWhole) (arg3 : Memref sig .tc .smem S1 .i32) (harg3 : arg3.IsWhole) (arg4 : Memref sig .tc .smem S1 .i32) (harg4 : arg4.IsWhole) (hc0 : ¬cond1 i)
    (x0 : Vec F S1x1x2000 .i32) (p q : BitVec 32) (K : PUnit → sProp 𝕄) :
    iprop(owns (c : Thread nD τ) arg1 fullShare x0 ∗ (∃ d, owns (c : Thread nD τ) arg2 fullShare d) ∗ owns (c : Thread nD τ) arg3 fullShare ((fun _ => p : Vec F S1 .i32)) ∗ owns (c : Thread nD τ) arg4 fullShare ((fun _ => q : Vec F S1 .i32))
        ∗ (iprop(owns (c : Thread nD τ) arg1 fullShare x0 ∗ owns (c : Thread nD τ) arg2 fullShare (rankBlk x0 p q)
            ∗ owns (c : Thread nD τ) arg3 fullShare ((fun _ => lastBlk x0 : Vec F S1 .i32)) ∗ owns (c : Thread nD τ) arg4 fullShare ((fun _ => cumBlk x0 p q : Vec F S1 .i32))) -∗ K ⟨⟩))
      ⊢ wp frame (wpE (defs₀ (F := F)) Variants.none c none) E (cc1__rank_body i arg1 harg1 arg2 harg2 arg3 harg3 arg4 harg4) K := by
  simp only [cc1__rank_body_eq_skeleton]; unfold cc1__rank_body_skel
  simp only [k1_part1_eq_skeleton]
  unfold owns
  iintro ⟨⟨%f0, %hf0, H0⟩, ⟨%d1, %f1, -, H1⟩, ⟨%f2, %hf2, H2⟩, ⟨%f3, %hf3, H3⟩, Hk⟩
  obtain rfl := harg1.eq_unread hf0
  obtain rfl := harg3.eq_unread hf2
  obtain rfl := harg4.eq_unread hf3
  have eA : View.readAt (Elt F) arg1.view (Rect.unit ![0, 0, 0] ![1, 1, 2000] inb_S1x1x2000_S1x1x2000_0_0_0).toLoadRect (harg1.unread x0) = x0 :=
    (View.readAt_full (Val := Elt F) arg1.view _ inb_S1x1x2000_S1x1x2000_0_0_0).trans hf0
  have e3 : ∀ h, View.readAt (Elt F) arg3.view (Rect.unit ![0] ![1] inb_S1_S1_0).toLoadRect (harg3.unread fun _ => p) (Shape.Idx.first h) = p :=
    fun h => harg3.readAt_unread _ _ _
  have e4 : ∀ h, View.readAt (Elt F) arg4.view (Rect.unit ![0] ![1] inb_S1_S1_0).toLoadRect (harg4.unread fun _ => q) (Shape.Idx.first h) = q :=
    fun h => harg4.readAt_unread _ _ _
  sl_exec (disch := first | sl_exact hc0)
  sl_step
  iapply Hk
  isplitl [H0]
  · iexists _; isplitr; · ipureintro; exact harg1.read_unread _
    iexact H0
  isplitl [H1]
  · iexists _; isplitr
    swap; · iexact H1
    ipureintro
    rw [View.read_writes_full]
    exact rank_of (F := F) (by first | rfl | exact eA) (by first | rfl | exact e3 _) (by first | rfl | exact e4 _)
  isplitl [H2]
  · iexists _; isplitr
    swap; · iexact H2
    ipureintro
    rw [View.read_writes_full]
    exact last_of (F := F) (by first | rfl | exact eA)
  iexists _; isplitr
  swap; · iexact H3
  ipureintro
  rw [View.read_writes_full]
  exact cum_of (F := F) (by first | rfl | exact eA) (by first | rfl | exact e3 _) (by first | rfl | exact e4 _)

set_option maxHeartbeats 1000000 in
/-- The body at the first point. -/
theorem sound_kernel1_A (c : Dev nD) (E : Set ℕ) (i : grid1.Coords) (arg1 : Memref sig .tc .vmem S1x1x2000 .i32) (harg1 : arg1.IsWhole) (arg2 : Memref sig .tc .vmem S1x1x2000 .i32) (harg2 : arg2.IsWhole) (arg3 : Memref sig .tc .smem S1 .i32) (harg3 : arg3.IsWhole) (arg4 : Memref sig .tc .smem S1 .i32) (harg4 : arg4.IsWhole) (hc0 : cond1 i)
    (x0 : Vec F S1x1x2000 .i32) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (rankBlk x0 (initBlk x0) 0#32)
            ∗ owns (c : Thread nD τ) arg3 fullShare ((fun _ => lastBlk x0 : Vec F S1 .i32)) ∗ owns (c : Thread nD τ) arg4 fullShare ((fun _ => cumBlk x0 (initBlk x0) 0#32 : Vec F S1 .i32))) -∗ K ⟨⟩))
      ⊢ wp frame (wpE (defs₀ (F := F)) Variants.none c none) E (cc1__rank_body i arg1 harg1 arg2 harg2 arg3 harg3 arg4 harg4) K := by
  simp only [cc1__rank_body_eq_skeleton]; unfold cc1__rank_body_skel
  simp only [k1_part1_eq_skeleton]
  unfold owns
  iintro ⟨⟨%f0, %hf0, H0⟩, ⟨%d1, %f1, -, H1⟩, ⟨%d2, %f2, -, H2⟩, ⟨%d3, %f3, -, H3⟩, Hk⟩
  obtain rfl := harg1.eq_unread hf0
  have eA : View.readAt (Elt F) arg1.view (Rect.unit ![0, 0, 0] ![1, 1, 2000] inb_S1x1x2000_S1x1x2000_0_0_0).toLoadRect (harg1.unread x0) = x0 :=
    (View.readAt_full (Val := Elt F) arg1.view _ inb_S1x1x2000_S1x1x2000_0_0_0).trans hf0
  have e1 : View.readAt (Elt F) arg1.view (Rect.unit ![0, 0, 0] ![1, 1, 1] inb_S1x1x2000_S1x1x1_0_0_0).toLoadRect (harg1.unread x0)
      = View.ld (Val := Elt F) x0 r1_2 := funext fun y => Memref.IsWhole.readAt_unread harg1 _ _ _
  sl_exec (disch := first | sl_exact hc0)
  sl_step
  iapply Hk
  isplitl [H0]
  · iexists _; isplitr; · ipureintro; exact harg1.read_unread _
    iexact H0
  isplitl [H1]
  · iexists _; isplitr
    swap; · iexact H1
    ipureintro
    rw [View.read_writes_full]
    exact rank_of (F := F) (by first | rfl | exact eA) (by first | exact init_of (F := F) rfl | exact init_of (F := F) e1) rfl
  isplitl [H2]
  · iexists _; isplitr
    swap; · iexact H2
    ipureintro
    rw [View.read_writes_full]
    exact last_of (F := F) (by first | rfl | exact eA)
  iexists _; isplitr
  swap; · iexact H3
  ipureintro
  rw [View.read_writes_full]
  exact cum_of (F := F) (by first | rfl | exact eA) (by first | exact init_of (F := F) rfl | exact init_of (F := F) e1) rfl

/-! ## The state carried between points -/

/-- The key and the number of groups the scratch words hold before point `n`: at the first the block's own start, afterwards the last key
    and the running number of groups of the points before. -/
def stAt (c : Dev nD) : (n : ℕ) → n ≤ cfg1.N → BitVec 32 × BitVec 32
  | 0, _ => (initBlk (F := F) (iblk1 V c 0 ⟨0, by rw [show cfg1.N = 160 from N_1]; omega⟩), 0#32)
  | n + 1, hn => (lastBlk (F := F) (iblk1 V c 0 ⟨n, hn⟩),
      cumBlk (F := F) (iblk1 V c 0 ⟨n, hn⟩) (stAt c n (Nat.le_of_lt hn)).1 (stAt c n (Nat.le_of_lt hn)).2)

/-- The state before a point, at that point's own bound. -/
abbrev st1 (c : Dev nD) (t : Fin cfg1.N) : BitVec 32 × BitVec 32 := stAt V c t.val (Nat.le_of_lt t.isLt)

/-- The staging buffers of the first region, which this one does not touch. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped rest and the generator register: the untouched staging buffers, the two scratch words at anything, the register. -/
theorem PhiA1_split (c : Dev nD) : (Pipeline.ΦA spec1 c : sProp 𝕄)
    ⊢ iprop((stgRest c ∗ (∃ d, owns (c : Thread nD τ) (Memref.whole cc1_scratch0 : Memref sig .tc .smem S1 .i32) fullShare d) ∗ (∃ d, owns (c : Thread nD τ) (Memref.whole cc1_scratch1 : Memref sig .tc .smem S1 .i32) fullShare d)) ∗ (∃ r, prngReg c r)) := by
  unfold Pipeline.ΦA stgRest; rw [scopedRest1_eq]; simp only [owns_whole]
  iintro ⟨⟨G0, G1, G2, G3, G4, G5, G6, G7, G8, G9, G10, G11, HA, HB⟩, Hg⟩
  isplitr [Hg]
  · isplitr [HA HB]
    · skip
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      iexact G11
    isplitl [HA]; · iexact HA
    iexact HB
  iexact Hg

/-- The converse. -/
theorem PhiA1_join (c : Dev nD) : iprop((stgRest c ∗ (∃ d, owns (c : Thread nD τ) (Memref.whole cc1_scratch0 : Memref sig .tc .smem S1 .i32) fullShare d) ∗ (∃ d, owns (c : Thread nD τ) (Memref.whole cc1_scratch1 : Memref sig .tc .smem S1 .i32) fullShare d)) ∗ (∃ r, prngReg c r))
    ⊢ (Pipeline.ΦA spec1 c : sProp 𝕄) := by
  unfold Pipeline.ΦA stgRest; rw [scopedRest1_eq]; simp only [owns_whole]
  iintro ⟨⟨⟨G0, G1, G2, G3, G4, G5, G6, G7, G8, G9, G10, G11⟩, HA, HB⟩, Hg⟩
  isplitr [Hg]
  · skip
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [HA]; · iexact HA
    iexact HB
  iexact Hg

/-- The region's invariant before position `n`: before the first point everything at anything, afterwards the scratch words at the state. -/
def PhiS (c : Dev nD) : (n : ℕ) → n ≤ cfg1.N → sProp 𝕄
  | 0, _ => Pipeline.ΦA spec1 c
  | n + 1, hn => iprop((stgRest c ∗ owns (c : Thread nD τ) (Memref.whole cc1_scratch0 : Memref sig .tc .smem S1 .i32) fullShare ((fun _ => (stAt V c (n + 1) hn).1 : Vec F S1 .i32))
      ∗ owns (c : Thread nD τ) (Memref.whole cc1_scratch1 : Memref sig .tc .smem S1 .i32) fullShare ((fun _ => (stAt V c (n + 1) hn).2 : Vec F S1 .i32))) ∗ (∃ r, prngReg c r))

theorem PhiS_zero (c : Dev nD) (n : ℕ) (h : n ≤ cfg1.N) (hz : n = 0) : PhiS V c n h = Pipeline.ΦA spec1 c := by
  subst hz; rfl
theorem PhiS_pos (c : Dev nD) (n : ℕ) (h : n ≤ cfg1.N) (hz : n ≠ 0) :
    PhiS V c n h = iprop((stgRest c ∗ owns (c : Thread nD τ) (Memref.whole cc1_scratch0 : Memref sig .tc .smem S1 .i32) fullShare ((fun _ => (stAt V c n h).1 : Vec F S1 .i32))
      ∗ owns (c : Thread nD τ) (Memref.whole cc1_scratch1 : Memref sig .tc .smem S1 .i32) fullShare ((fun _ => (stAt V c n h).2 : Vec F S1 .i32))) ∗ (∃ r, prngReg c r)) := by
  cases n with
  | zero => exact absurd rfl hz
  | succ n => rfl

/-! ## The pipeline's proof data -/

/-- The proof data on core `c`: arrays as the region finds them; after the body at a point the input's buffer at its block and the
    output's at that block's ranks over the carried state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => rankBlk (F := F) (iblk1 V c 0 t) (st1 V c t).1 (st1 V c t).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) : (dat1 V c).Φ t.castSucc = PhiS V c t.val (Nat.le_of_lt t.isLt) := by
  dsimp only [dat1]; exact Pipeline.Dat.Φ_castSucc (PhiS V c) t
theorem after1_0 (c : Dev nD) (t : Fin cfg1.N) : (dat1 V c).after 0 t = iblk1 V c 0 t := by dsimp only [dat1]
theorem after1_1 (c : Dev nD) (t : Fin cfg1.N) : (dat1 V c).after 1 t = rankBlk (F := F) (iblk1 V c 0 t) (st1 V c t).1 (st1 V c t).2 := by
  dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

abbrev st1_0 (t : Fin cfg1.N) : Memref sig .tc .vmem S1x1x2000 .i32 := win1_0.stage (cfg1.slots t 0)
abbrev st1_1 (t : Fin cfg1.N) : Memref sig .tc .vmem S1x1x2000 .i32 := win1_1.stage (cfg1.slots t 1)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 1600000 in
/-- The body at any point takes the invariant before it to the invariant after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl, after1_0, after1_1]
  rw [show (dat1 V c).Φ t.succ = PhiS V c (t.val + 1) t.isLt from rfl, PhiS_pos V c (t.val + 1) _ (Nat.succ_ne_zero _), PhiS_castSucc V c t]
  by_cases hz : t.val = 0
  · rw [PhiS_zero V c _ _ hz]
    have hs : st1 V c t = (initBlk (F := F) (iblk1 V c 0 t), 0#32) := by
      obtain ⟨n, hn⟩ := t
      cases n with
      | zero => rfl
      | succ n => exact absurd hz (Nat.succ_ne_zero _)
    have hn : stAt V c (t.val + 1) t.isLt = (lastBlk (F := F) (iblk1 V c 0 t), cumBlk (F := F) (iblk1 V c 0 t) (st1 V c t).1 (st1 V c t).2) := rfl
    rw [hn, hs]
    iintro ⟨HP, Ho, ⟨%d0, H0⟩, ⟨%d1, H1⟩⟩
    ihave HQ := (PhiA1_split (F := F) c) $$ HP
    icases HQ with ⟨⟨HR, HS0, HS1⟩, Hg⟩
    iapply (sound_kernel1_A c Set.univ (grid1.coords t) _ _ _ _ _ _ _ _ ((hcond1 t).mpr hz) (iblk1 V c 0 t) _)
    isplitl [H0]; · iexact H0
    isplitl [H1]; · iexists _; iexact H1
    isplitl [HS0]; · iexact HS0
    isplitl [HS1]; · iexact HS1
    iintro ⟨H0, H1, HS0, HS1⟩
    isplitl [HR HS0 HS1 Hg]
    · isplitr [Hg]
      · isplitl [HR]; · iexact HR
        isplitl [HS0]; · iexact HS0
        iexact HS1
      iexact Hg
    isplitl [Ho]; · iexact Ho
    isplitl [H0]; · iexact H0
    iexact H1
  · rw [PhiS_pos V c _ _ hz]
    have hn : stAt V c (t.val + 1) t.isLt = (lastBlk (F := F) (iblk1 V c 0 t), cumBlk (F := F) (iblk1 V c 0 t) (st1 V c t).1 (st1 V c t).2) := rfl
    rw [hn]
    iintro ⟨⟨⟨HR, HS0, HS1⟩, Hg⟩, Ho, ⟨%d0, H0⟩, ⟨%d1, H1⟩⟩
    iapply (sound_kernel1_B c Set.univ (grid1.coords t) _ _ _ _ _ _ _ _ (fun h => hz ((hcond1 t).mp h)) (iblk1 V c 0 t) (st1 V c t).1 (st1 V c t).2 _)
    isplitl [H0]; · iexact H0
    isplitl [H1]; · iexists _; iexact H1
    isplitl [HS0]; · iexact HS0
    isplitl [HS1]; · iexact HS1
    iintro ⟨H0, H1, HS0, HS1⟩
    isplitl [HR HS0 HS1 Hg]
    · isplitr [Hg]
      · isplitl [HR]; · iexact HR
        isplitl [HS0]; · iexact HS0
        iexact HS1
      iexact Hg
    isplitl [Ho]; · iexact Ho
    isplitl [H0]; · iexact H0
    iexact H1

theorem defs₀_row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the region is handed is the invariant before its first point. -/
theorem hin1 (c : Dev nD) : Pipeline.ΦA spec1 c ⊢ (dat1 (F := F) V c).Φ 0 := by
  rw [show (dat1 V c).Φ 0 = PhiS V c 0 (Nat.zero_le _) from rfl, PhiS_zero V c 0 _ rfl]
  try exact Idealize.SL.BI.Entails.refl _

/-- After the last point the scratch words' contents are forgotten. -/
theorem hout1 (c : Dev nD) : (dat1 (F := F) V c).Φ (Fin.last cfg1.N) ⊢ Pipeline.ΦA spec1 c := by
  rw [show (dat1 V c).Φ (Fin.last cfg1.N) = PhiS V c cfg1.N (Nat.le_refl _) from rfl,
    PhiS_pos V c _ _ (by rw [show cfg1.N = 160 from N_1]; omega)]
  iintro ⟨⟨HR, HS0, HS1⟩, Hg⟩
  iapply (PhiA1_join (F := F) c)
  isplitr [Hg]
  · isplitl [HR]; · iexact HR
    isplitl [HS0]; · iexists _; iexact HS0
    iexists _; iexact HS1
  iexact Hg

end Cert.KernelIdeal.Hand

end
-- ==== Proof.KernelIdeal.Run.lean ====
module

public import proofs.«01_k».proof.Proof.KernelIdeal.Head
public import proofs.«01_k».proof.Proof.KernelIdeal.Rank
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

/-! # The program's run: host operations, the two kernels, and the host operations between and after them

The contents of a core's buffers at each boundary (`W0` … `W5`), and the theorem that every execution ends with them. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4_0, main_v4_1, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_c, main_v8, main_c_0, main_v9, main_v10, main_c_1, main_v11, main_v12, main_v13, main_v14, main_v15, main_c_2, main_v16, main_c_3, main_v17, main_v18, main_c_4, main_v19, main_v20, main_v21, main_v22, main_c_5, main_v23, main_v24, main_c_6, main_v25, main_v26, main_v27, main_v28, main_c_7, main_v29, main_v30, main_c_8, main_v31, main_v32, main_v33, main_v34, main_v35, main_cst, main_v36, main_c_9, main_v37, main_v38, main_c_10, main_v39, main_v40, main_v41, main_v42, main_v43, main_v44, main_v45, main_v46, main_v47, main_cst_11, main_v48, main_c_12, main_v49, main_v50, main_c_13, main_v51, main_v52, main_v53, main_v54, main_v55, main_c_14, main_v56, main_v57, main_c_15, main_v58, main_v59, main_v60, main_v61, main_v62, main_v63, main_v64, main_v65]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have hΦ := hout1 (V3 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution ends, nothing faulting, with every unscoped buffer of every core at the last boundary's contents and every
    semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

/-- The value run: every execution ends with the four results at the last boundary's contents and the arguments as launched. -/
theorem run_values : θ_run defs (onTc (τ := τ) (main (F := F))) ⟨m, fun _ => 0, ρ⟩ (fun r => ∀ c : Dev nD,
      r.2.mem ((c.tc : Thread nD τ).loc main_v1_0) = W5 m ρ c (Proc.devRef .tc main_v1_0)
      ∧ r.2.mem ((c.tc : Thread nD τ).loc main_v47) = W5 m ρ c (Proc.devRef .tc main_v47)
      ∧ r.2.mem ((c.tc : Thread nD τ).loc main_v65) = W5 m ρ c (Proc.devRef .tc main_v65)
      ∧ r.2.mem ((c.tc : Thread nD τ).loc main_v15) = W5 m ρ c (Proc.devRef .tc main_v15)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c =>
      ⟨h.1 c _ (mem_uc main_v1_0 (by decide)), h.1 c _ (mem_uc main_v47 (by decide)),
       h.1 c _ (mem_uc main_v65 (by decide)), h.1 c _ (mem_uc main_v15 (by decide)),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩) (run_all m ρ)

end Cert.KernelIdeal.Hand

end
-- ==== Proof.Value.Ssa.lean ====
module

public import Idealize.ShloMosaic.Lib.StableHlo.Run

/-! # Reading a straight line of host operations

When every operation writes one buffer, each buffer is written once and every operand is written before it is read, the
contents after the line satisfy one equation per operation: the result buffer holds the operation's function of what
the operand buffers hold, all read at the end. -/

@[expose] public section

noncomputable section

namespace Cert.Words

open Idealize.ShloMosaic Idealize.ShloMosaic.StableHlo

variable {nD : ℕ} {τ : Topo} {sig : RefSig} {Val : EltTy → Type}

/-- `W` lists the buffers that the operations write, in order. -/
def Writes (ops : List (HloOp τ sig Val)) (W : List (Ref sig .tc)) : Prop :=
  ops.map HloOp.writes = W.map fun r => {Proc.devRef (τ := τ) .tc r}

variable {ops : List (HloOp τ sig Val)} {W : List (Ref sig .tc)}

theorem Writes.drop (h : Writes ops W) (k : ℕ) : Writes (ops.drop k) (W.drop k) := by
  unfold Writes at h ⊢
  rw [List.map_drop, List.map_drop, h]

theorem after_take_drop (V : Valuation τ sig Val) (k : ℕ) : after ops V = after (ops.drop k) (after (ops.take k) V) := by
  have key : ∀ (a b : List (HloOp τ sig Val)) (V : Valuation τ sig Val), after (a ++ b) V = after b (after a V) := by
    intro a
    induction a with
    | nil => intro b V; rfl
    | cons o a ih => intro b V; exact ih b _
  rw [← key, List.take_append_drop]

/-- A buffer that no operation from the `k`-th on writes holds at the end what it held after the first `k`. -/
theorem Writes.keep (h : Writes ops W) (V : Valuation τ sig Val) (k : ℕ) {x : Ref sig .tc} (hx : x ∉ W.drop k) :
    after ops V (Proc.devRef .tc x) = after (ops.take k) V (Proc.devRef .tc x) := by
  rw [after_take_drop V k]
  exact after_of_writes_sub _ _ (forall_writes_sub_of_map (h.drop k)) hx

/-- A buffer that only the `k`-th operation writes holds at the end what that operation put there. -/
theorem Writes.result (h : Writes ops W) (V : Valuation τ sig Val) (k : ℕ) {op : HloOp τ sig Val} (hk : ops[k]? = some op)
    {y : Ref sig .tc} (hy : y ∉ W.drop (k + 1)) :
    after ops V (Proc.devRef .tc y) = op.result (after (ops.take k) V) (Proc.devRef .tc y) := by
  rw [h.keep V (k + 1) hy, List.take_add_one, hk]
  have key : ∀ (a b : List (HloOp τ sig Val)) (V : Valuation τ sig Val), after (a ++ b) V = after b (after a V) := by
    intro a
    induction a with
    | nil => intro b V; rfl
    | cons o a ih => intro b V; exact ih b _
  rw [key]
  rfl

theorem Writes.nullary (h : Writes ops W) (V : Valuation τ sig Val) (k : ℕ) {y : Ref sig .tc} (v : y.ty.Contents Val) {hy}
    (hk : ops[k]? = some (nullary y v hy)) (hy' : y ∉ W.drop (k + 1)) : after ops V (Proc.devRef .tc y) = v :=
  (h.result V k hk hy').trans (nullary_result' v hy _)

theorem Writes.unary (h : Writes ops W) (V : Valuation τ sig Val) (k : ℕ) {x y : Ref sig .tc} (f : x.ty.Contents Val → y.ty.Contents Val) {hx hy}
    (hk : ops[k]? = some (unary x y f hx hy)) (hx' : x ∉ W.drop k) (hy' : y ∉ W.drop (k + 1)) :
    after ops V (Proc.devRef .tc y) = f (after ops V (Proc.devRef .tc x)) := by
  rw [h.keep V k hx']
  exact (h.result V k hk hy').trans (unary_result' f hx hy _)

theorem Writes.reshape (h : Writes ops W) (V : Valuation τ sig Val) (k : ℕ) {x y : Ref sig .tc} {he hn hx hy}
    (hk : ops[k]? = some (reshape x y he hn hx hy)) (hx' : x ∉ W.drop k) (hy' : y ∉ W.drop (k + 1)) :
    after ops V (Proc.devRef .tc y) = fun i => he ▸ shapeCast y.ty.shape (after ops V (Proc.devRef .tc x)) hn i := by
  rw [h.keep V k hx']
  exact (h.result V k hk hy').trans (reshape_result' he hn hx hy _)

theorem Writes.binary (h : Writes ops W) (V : Valuation τ sig Val) (k : ℕ) {a b y : Ref sig .tc}
    (f : a.ty.Contents Val → b.ty.Contents Val → y.ty.Contents Val) {ha hb hy} (hk : ops[k]? = some (binary a b y f ha hb hy))
    (ha' : a ∉ W.drop k) (hb' : b ∉ W.drop k) (hy' : y ∉ W.drop (k + 1)) :
    after ops V (Proc.devRef .tc y) = f (after ops V (Proc.devRef .tc a)) (after ops V (Proc.devRef .tc b)) := by
  rw [h.keep V k ha', h.keep V k hb']
  exact (h.result V k hk hy').trans (binary_result' f ha hb hy _)

theorem Writes.ternary (h : Writes ops W) (V : Valuation τ sig Val) (k : ℕ) {c a b y : Ref sig .tc}
    (f : c.ty.Contents Val → a.ty.Contents Val → b.ty.Contents Val → y.ty.Contents Val) {hc ha hb hy}
    (hk : ops[k]? = some (ternary c a b y f hc ha hb hy))
    (hc' : c ∉ W.drop k) (ha' : a ∉ W.drop k) (hb' : b ∉ W.drop k) (hy' : y ∉ W.drop (k + 1)) :
    after ops V (Proc.devRef .tc y)
      = f (after ops V (Proc.devRef .tc c)) (after ops V (Proc.devRef .tc a)) (after ops V (Proc.devRef .tc b)) := by
  rw [h.keep V k hc', h.keep V k ha', h.keep V k hb']
  exact (h.result V k hk hy').trans (ternary_result' f hc ha hb hy _)

/-! The same for operations whose operands carry the proof of their type. -/

theorem Writes.tnullary (h : Writes ops W) (V : Valuation τ sig Val) (k : ℕ) {y : Ref sig .tc} (v : y.ty.Contents Val) {hy₁ hy₂}
    (hk : ops[k]? = some (TRef.nullary (TRef.mk y rfl hy₁ hy₂) v)) (hy' : y ∉ W.drop (k + 1)) :
    after ops V (Proc.devRef .tc y) = v :=
  h.nullary V k v hk hy'

theorem Writes.tunary (h : Writes ops W) (V : Valuation τ sig Val) (k : ℕ) {x y : Ref sig .tc} (f : x.ty.Contents Val → y.ty.Contents Val)
    {hx₁ hx₂ hy₁ hy₂} (hk : ops[k]? = some (TRef.unary (TRef.mk x rfl hx₁ hx₂) (TRef.mk y rfl hy₁ hy₂) f))
    (hx' : x ∉ W.drop k) (hy' : y ∉ W.drop (k + 1)) :
    after ops V (Proc.devRef .tc y) = f (after ops V (Proc.devRef .tc x)) :=
  h.unary V k f hk hx' hy'

theorem Writes.tbinary (h : Writes ops W) (V : Valuation τ sig Val) (k : ℕ) {a b y : Ref sig .tc}
    (f : a.ty.Contents Val → b.ty.Contents Val → y.ty.Contents Val) {ha₁ ha₂ hb₁ hb₂ hy₁ hy₂}
    (hk : ops[k]? = some (TRef.binary (TRef.mk a rfl ha₁ ha₂) (TRef.mk b rfl hb₁ hb₂) (TRef.mk y rfl hy₁ hy₂) f))
    (ha' : a ∉ W.drop k) (hb' : b ∉ W.drop k) (hy' : y ∉ W.drop (k + 1)) :
    after ops V (Proc.devRef .tc y) = f (after ops V (Proc.devRef .tc a)) (after ops V (Proc.devRef .tc b)) :=
  h.binary V k f hk ha' hb' hy'

theorem Writes.tternary (h : Writes ops W) (V : Valuation τ sig Val) (k : ℕ) {c a b y : Ref sig .tc}
    (f : c.ty.Contents Val → a.ty.Contents Val → b.ty.Contents Val → y.ty.Contents Val) {hc₁ hc₂ ha₁ ha₂ hb₁ hb₂ hy₁ hy₂}
    (hk : ops[k]? = some (TRef.ternary (TRef.mk c rfl hc₁ hc₂) (TRef.mk a rfl ha₁ ha₂) (TRef.mk b rfl hb₁ hb₂) (TRef.mk y rfl hy₁ hy₂) f))
    (hc' : c ∉ W.drop k) (ha' : a ∉ W.drop k) (hb' : b ∉ W.drop k) (hy' : y ∉ W.drop (k + 1)) :
    after ops V (Proc.devRef .tc y)
      = f (after ops V (Proc.devRef .tc c)) (after ops V (Proc.devRef .tc a)) (after ops V (Proc.devRef .tc b)) :=
  h.ternary V k f hk hc' ha' hb' hy'

end Cert.Words
-- ==== Proof.ReferenceIdeal.Ops.lean ====
module

public import proofs.«01_k».proof.Proof.Gen.ReferenceIdeal
public import proofs.«01_k».proof.Proof.Value.Ssa
public import Idealize.ShloMosaic.Lib.StableHlo.Run
public import Idealize.ShloMosaic.Lib.Pipeline.Frame

/-! # The reference as a list of host operations

The reference is a straight line of host operations. This module lists them, shows that running the reference is
running the list, and that every execution ends with the buffers as the list leaves them. -/

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S320000x1, .i32⟩ : BufTy).Contents (Elt F) → (⟨S320000x3, .i32⟩ : BufTy).Contents (Elt F) → (⟨S320000x4, .i32⟩ : BufTy).Contents (Elt F) :=
  (fun a b => concatenate S320000x4 1 [⟨S320000x1, a⟩, ⟨S320000x3, b⟩] concatenates_S320000x1_S320000x3_S320000x4_d1)

/-- @main's operations 1 … 30 of 213 (window `main_part0`). -/
abbrev ops_part0_0 : List (HloOp τ sig (Elt F)) :=
  [ binary main_arg0 main_arg2 main_v0 ((fun l r => Host.dotGeneral dot_S320000x128_S128x3_S320000x3_1_0_0_1_n_n none l r) : (⟨S320000x128, .f32⟩ : BufTy).Contents (Elt F) → (⟨S128x3, .f32⟩ : BufTy).Contents (Elt F) → (⟨S320000x3, .f32⟩ : BufTy).Contents (Elt F)),
    unary main_arg3 main_v1 (broadcastInDim S1x3 ![1] bcast_S3_S1x3_1 : (⟨S3, .f32⟩ : BufTy).Contents (Elt F) → (⟨S1x3, .f32⟩ : BufTy).Contents (Elt F)),
    unary main_v1 main_v2 (broadcastInDim S320000x3 ![0, 1] bcast_S1x3_S320000x3_0_1 : (⟨S1x3, .f32⟩ : BufTy).Contents (Elt F) → (⟨S320000x3, .f32⟩ : BufTy).Contents (Elt F)),
    binary main_v0 main_v2 main_v3 (addf : (⟨S320000x3, .f32⟩ : BufTy).Contents (Elt F) → (⟨S320000x3, .f32⟩ : BufTy).Contents (Elt F) → (⟨S320000x3, .f32⟩ : BufTy).Contents (Elt F)),
    nullary main_c (constantI S_ 32 0#32),
    unary main_c main_v4 (broadcastInDim S320000x1 ![] bcast_S_S320000x1 : (⟨S_, .i32⟩ : BufTy).Contents (Elt F) → (⟨S320000x1, .i32⟩ : BufTy).Contents (Elt F)),
    unary main_v3 main_v5 (fptosi 32 : (⟨S320000x3, .f32⟩ : BufTy).Contents (Elt F) → (⟨S320000x3, .i32⟩ : BufTy).Contents (Elt F)),
    binary main_v4 main_v5 main_v6 (fn_main_v6 (F := F)),
    binary main_arg1 main_v6 main_v7 (addi : (⟨S320000x4, .i32⟩ : BufTy).Contents (Elt F) → (⟨S320000x4, .i32⟩ : BufTy).Contents (Elt F) → (⟨S320000x4, .i32⟩ : BufTy).Contents (Elt F)),
    nullary main_c_0 (constantI S_ 32 1024#32),
    unary main_c_0 main_v8 (broadcastInDim S320000x4 ![] bcast_S_S320000x4 : (⟨S_, .i32⟩ : BufTy).Contents (Elt F) → (⟨S320000x4, .i32⟩ : BufTy).Contents (Elt F)),
    binary main_v7 main_v8 main_v9 (addi : (⟨S320000x4, .i32⟩ : BufTy).Contents (Elt F) → (⟨S320000x4, .i32⟩ : BufTy).Contents (Elt F) → (⟨S320000x4, .i32⟩ : BufTy).Contents (Elt F)),
    unary main_v9 main_v10 ((extractStridedSlice S320000x1 ![0, 0] · slices_S320000x4_S320000x1_0_0) : (⟨S320000x4, .i32⟩ : BufTy).Contents (Elt F) → (⟨S320000x1, .i32⟩ : BufTy).Contents (Elt F)),
    reshape main_v10 main_v11 (rfl : (.i32 : EltTy) = .i32) shapeCasts_S320000x1_S320000,
    nullary main_c_1 (constantI S_ 32 4096#32),
    unary main_c_1 main_v12 (broadcastInDim S320000 ![] bcast_S_S320000 : (⟨S_, .i32⟩ : BufTy).Contents (Elt F) → (⟨S320000, .i32⟩ : BufTy).Contents (Elt F)),
    binary main_v11 main_v12 main_v13 (muli : (⟨S320000, .i32⟩ : BufTy).Contents (Elt F) → (⟨S320000, .i32⟩ : BufTy).Contents (Elt F) → (⟨S320000, .i32⟩ : BufTy).Contents (Elt F)),
    unary main_v9 main_v14 ((extractStridedSlice S320000x1 ![0, 1] · slices_S320000x4_S320000x1_0_1) : (⟨S320000x4, .i32⟩ : BufTy).Contents (Elt F) → (⟨S320000x1, .i32⟩ : BufTy).Contents (Elt F)),
    reshape main_v14 main_v15 (rfl : (.i32 : EltTy) = .i32) shapeCasts_S320000x1_S320000,
    binary main_v13 main_v15 main_v16 (addi : (⟨S320000, .i32⟩ : BufTy).Contents (Elt F) → (⟨S320000, .i32⟩ : BufTy).Contents (Elt F) → (⟨S320000, .i32⟩ : BufTy).Contents (Elt F)),
    nullary main_c_2 (constantI S_ 32 4096#32),
    unary main_c_2 main_v17 (broadcastInDim S320000 ![] bcast_S_S320000 : (⟨S_, .i32⟩ : BufTy).Contents (Elt F) → (⟨S320000, .i32⟩ : BufTy).Contents (Elt F)),
    binary main_v16 main_v17 main_v18 (muli : (⟨S320000, .i32⟩ : BufTy).Contents (Elt F) → (⟨S320000, .i32⟩ : BufTy).Contents (Elt F) → (⟨S320000, .i32⟩ : BufTy).Contents (Elt F)),
    unary main_v9 main_v19 ((extractStridedSlice S320000x1 ![0, 2] · slices_S320000x4_S320000x1_0_2) : (⟨S320000x4, .i32⟩ : BufTy).Contents (Elt F) → (⟨S320000x1, .i32⟩ : BufTy).Contents (Elt F)),
    reshape main_v19 main_v20 (rfl : (.i32 : EltTy) = .i32) shapeCasts_S320000x1_S320000,
    binary main_v18 main_v20 main_v21 (addi : (⟨S320000, .i32⟩ : BufTy).Contents (Elt F) → (⟨S320000, .i32⟩ : BufTy).Contents (Elt F) → (⟨S320000, .i32⟩ : BufTy).Contents (Elt F)),
    nullary main_c_3 (constantI S_ 32 4096#32),
    unary main_c_3 main_v22 (broadcastInDim S320000 ![] bcast_S_S320000 : (⟨S_, .i32⟩ : BufTy).Contents (Elt F) → (⟨S320000, .i32⟩ : BufTy).Contents (Elt F)),
    binary main_v21 main_v22 main_v23 (muli : (⟨S320000, .i32⟩ : BufTy).Contents (Elt F) → (⟨S320000, .i32⟩ : BufTy).Contents (Elt F) → (⟨S320000, .i32⟩ : BufTy).Contents (Elt F)),
    unary main_v9 main_v24 ((extractStridedSlice S320000x1 ![0, 3] · slices_S320000x4_S320000x1_0_3) : (⟨S320000x4, .i32⟩ : BufTy).Contents (Elt F) → (⟨S320000x1, .i32⟩ : BufTy).Contents (Elt F)) ]

/-- @main's operations 31 … 60 of 213 (window `main_part0`). -/
abbrev ops_part0_1 : List (HloOp τ sig (Elt F)) :=
  [ reshape main_v24 main_v25 (rfl : (.i32 : EltTy) = .i32) shapeCasts_S320000x1_S320000,
    binary main_v23 main_v25 main_v26 (addi : (⟨S320000, .i32⟩ : BufTy).Contents (Elt F) → (⟨S320000, .i32⟩ : BufTy).Contents (Elt F) → (⟨S320000, .i32⟩ : BufTy).Contents (Elt F)),
    TRef.reshape (TRef.of (T := ⟨S320000, .i32⟩) main_v26) (TRef.of (T := ⟨S320000x1, .i32⟩) main_call0_v0) (rfl : (.i32 : EltTy) = .i32) shapeCasts_S320000_S320000x1,
    TRef.unary (TRef.of (T := ⟨S320000x1, .i32⟩) main_call0_v0) (TRef.of (T := ⟨S1x320000, .i32⟩) main_call0_v1) (transpose S1x320000 [1, 0] · transposes_S320000x1_S1x320000_1_0),
    TRef.unary (TRef.of (T := ⟨S1x320000, .i32⟩) main_call0_v1) (TRef.of (T := ⟨S1x320000, .i32⟩) main_call0_v2) (Host.reverse [0]),
    TRef.unary (TRef.of (T := ⟨S1x320000, .i32⟩) main_call0_v2) (TRef.of (T := ⟨S1x320000, .i32⟩) main_call0_call0_v0) (extractStridedSlice S1x320000 ![0, 0] · slices_S1x320000_S1x320000_0_0),
    TRef.reshape (TRef.of (T := ⟨S1x320000, .i32⟩) main_call0_call0_v0) (TRef.of (T := ⟨S320000, .i32⟩) main_call0_call0_v1) (rfl : (.i32 : EltTy) = .i32) shapeCasts_S1x320000_S320000,
    TRef.nullary (TRef.of (T := ⟨S320000, .i32⟩) main_call0_call0_v2) (iotaInDim S320000 32 0),
    TRef.binary (TRef.of (T := ⟨S320000, .i32⟩) main_call0_call0_v1) (TRef.of (T := ⟨S320000, .i32⟩) main_call0_call0_v2) (TRef.of (T := ⟨S320000, .i32⟩) main_call0_call0_v3_0) (fun x y => (Host.sort2 S320000 0 comparator_i32_i32_d0 x y).1),
    TRef.binary (TRef.of (T := ⟨S320000, .i32⟩) main_call0_call0_v1) (TRef.of (T := ⟨S320000, .i32⟩) main_call0_call0_v2) (TRef.of (T := ⟨S320000, .i32⟩) main_v27_2) (fun x y => (Host.sort2 S320000 0 comparator_i32_i32_d0 x y).2),
    TRef.nullary (TRef.of (T := ⟨S_, .i32⟩) main_call0_c) (constantI S_ 32 0#32),
    TRef.unary (TRef.of (T := ⟨S_, .i32⟩) main_call0_c) (TRef.of (T := ⟨S320000, .i32⟩) main_call0_v4) (broadcastInDim S320000 ![] bcast_S_S320000),
    TRef.binary (TRef.of (T := ⟨S320000, .i32⟩) main_v27_2) (TRef.of (T := ⟨S320000, .i32⟩) main_call0_v4) (TRef.of (T := ⟨S320000, .i1⟩) main_call0_v5) (cmpi .slt),
    TRef.nullary (TRef.of (T := ⟨S_, .i32⟩) main_call0_c_0) (constantI S_ 32 320000#32),
    TRef.unary (TRef.of (T := ⟨S_, .i32⟩) main_call0_c_0) (TRef.of (T := ⟨S320000, .i32⟩) main_call0_v6) (broadcastInDim S320000 ![] bcast_S_S320000),
    TRef.binary (TRef.of (T := ⟨S320000, .i32⟩) main_v27_2) (TRef.of (T := ⟨S320000, .i32⟩) main_call0_v6) (TRef.of (T := ⟨S320000, .i32⟩) main_call0_v7) addi,
    TRef.ternary (TRef.of (T := ⟨S320000, .i1⟩) main_call0_v5) (TRef.of (T := ⟨S320000, .i32⟩) main_call0_v7) (TRef.of (T := ⟨S320000, .i32⟩) main_v27_2) (TRef.of (T := ⟨S320000, .i32⟩) main_call0_v8) select,
    TRef.unary (TRef.of (T := ⟨S320000, .i32⟩) main_call0_v8) (TRef.of (T := ⟨S320000x1, .i32⟩) main_call0_v9) (broadcastInDim S320000x1 ![0] bcast_S320000_S320000x1_0),
    TRef.binary (TRef.of (T := ⟨S320000, .i32⟩) main_v26) (TRef.of (T := ⟨S320000x1, .i32⟩) main_call0_v9) (TRef.of (T := ⟨S320000, .i32⟩) main_v27_0) (fun x i => Host.gather gather_S320000_S320000x1_S320000_n_0_n_n_0_1_1 x i),
    TRef.nullary (TRef.of (T := ⟨S_, .i1⟩) main_call0_c_1) (constantI S_ 1 1#1),
    TRef.unary (TRef.of (T := ⟨S_, .i1⟩) main_call0_c_1) (TRef.of (T := ⟨S320000, .i1⟩) main_call0_v11) (broadcastInDim S320000 ![] bcast_S_S320000),
    TRef.unary (TRef.of (T := ⟨S320000, .i32⟩) main_v27_0) (TRef.of (T := ⟨S319999, .i32⟩) main_call0_v12) (extractStridedSlice S319999 ![1] · slices_S320000_S319999_1),
    TRef.unary (TRef.of (T := ⟨S320000, .i32⟩) main_v27_0) (TRef.of (T := ⟨S319999, .i32⟩) main_call0_v13) (extractStridedSlice S319999 ![0] · slices_S320000_S319999_0),
    TRef.binary (TRef.of (T := ⟨S319999, .i32⟩) main_call0_v12) (TRef.of (T := ⟨S319999, .i32⟩) main_call0_v13) (TRef.of (T := ⟨S319999, .i1⟩) main_call0_v14) (cmpi .ne),
    TRef.nullary (TRef.of (T := ⟨S_, .i1⟩) main_call0_c_2) (constantI S_ 1 0#1),
    TRef.binary (TRef.of (T := ⟨S319999, .i1⟩) main_call0_v14) (TRef.of (T := ⟨S_, .i1⟩) main_call0_c_2) (TRef.of (T := ⟨S319999, .i1⟩) main_call0_v15) (fun x v => Host.reduce IntOp.ori x v reducesTo_S319999_S319999_d h_S_),
    TRef.nullary (TRef.of (T := ⟨S_, .i32⟩) main_call0_c_3) (constantI S_ 32 1#32),
    TRef.unary (TRef.of (T := ⟨S_, .i32⟩) main_call0_c_3) (TRef.of (T := ⟨S1, .i32⟩) main_call0_v16) (broadcastInDim S1 ![] bcast_S_S1),
    TRef.ternary (TRef.of (T := ⟨S320000, .i1⟩) main_call0_v11) (TRef.of (T := ⟨S1, .i32⟩) main_call0_v16) (TRef.of (T := ⟨S319999, .i1⟩) main_call0_v15) (TRef.of (T := ⟨S320000, .i1⟩) main_v27_1) (fun x i u => Host.scatter scatter_S320000_S1_S319999_0_n_0_0 (fun _ b => b) x i u),
    TRef.unary (TRef.of (T := ⟨S320000, .i1⟩) main_v27_1) (TRef.of (T := ⟨S320000, .i32⟩) main_call1_v0) (extui 32 · natLt_1_32) ]

/-- @main's operations 61 … 90 of 213 (window `main_part0`). -/
abbrev ops_part0_2 : List (HloOp τ sig (Elt F)) :=
  [ TRef.nullary (TRef.of (T := ⟨S_, .i32⟩) main_call1_call0_c) (constantI S_ 32 0#32),
    TRef.unary (TRef.of (T := ⟨S_, .i32⟩) main_call1_call0_c) (TRef.of (T := ⟨S_, .i32⟩) main_call1_call0_v0) (broadcastInDim S_ ![] bcast_S_S_),
    TRef.binary (TRef.of (T := ⟨S320000, .i32⟩) main_call1_v0) (TRef.of (T := ⟨S_, .i32⟩) main_call1_call0_v0) (TRef.of (T := ⟨S320000, .i32⟩) main_v28) (fun x v => Host.reduceWindow IntOp.addi ![320000] ![1] ![319999] ![0] x v reduceWindows_S320000_S320000_w320000s1p319999_0 h_S_),
    nullary main_c_4 (constantI S_ 32 0#32),
    unary main_c_4 main_v29 (broadcastInDim S320000 ![] bcast_S_S320000 : (⟨S_, .i32⟩ : BufTy).Contents (Elt F) → (⟨S320000, .i32⟩ : BufTy).Contents (Elt F)),
    nullary main_c_5 (constantI S_ 32 0#32),
    unary main_c_5 main_v30 (broadcastInDim S320000 ![] bcast_S_S320000 : (⟨S_, .i32⟩ : BufTy).Contents (Elt F) → (⟨S320000, .i32⟩ : BufTy).Contents (Elt F)),
    binary main_v28 main_v30 main_v31 (cmpi .slt : (⟨S320000, .i32⟩ : BufTy).Contents (Elt F) → (⟨S320000, .i32⟩ : BufTy).Contents (Elt F) → (⟨S320000, .i1⟩ : BufTy).Contents (Elt F)),
    nullary main_c_6 (constantI S_ 32 320000#32),
    unary main_c_6 main_v32 (broadcastInDim S320000 ![] bcast_S_S320000 : (⟨S_, .i32⟩ : BufTy).Contents (Elt F) → (⟨S320000, .i32⟩ : BufTy).Contents (Elt F)),
    binary main_v28 main_v32 main_v33 (addi : (⟨S320000, .i32⟩ : BufTy).Contents (Elt F) → (⟨S320000, .i32⟩ : BufTy).Contents (Elt F) → (⟨S320000, .i32⟩ : BufTy).Contents (Elt F)),
    ternary main_v31 main_v33 main_v28 main_v34 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v34 main_v35 (broadcastInDim S320000x1 ![0] bcast_S320000_S320000x1_0 : (⟨S320000, .i32⟩ : BufTy).Contents (Elt F) → (⟨S320000x1, .i32⟩ : BufTy).Contents (Elt F)),
    nullary main_c_7 (constantI S_ 32 1#32),
    unary main_c_7 main_v36 (broadcastInDim S320000 ![] bcast_S_S320000 : (⟨S_, .i32⟩ : BufTy).Contents (Elt F) → (⟨S320000, .i32⟩ : BufTy).Contents (Elt F)),
    ternary main_v29 main_v35 main_v36 main_v37 ((fun x i u => Host.scatter scatter_S320000_S320000x1_S320000_n_0_0_1 IntOp.addi x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)),
    TRef.nullary (TRef.of (T := ⟨S_, .i32⟩) main_call2_call0_c) (constantI S_ 32 0#32),
    TRef.unary (TRef.of (T := ⟨S_, .i32⟩) main_call2_call0_c) (TRef.of (T := ⟨S_, .i32⟩) main_call2_call0_v0) (broadcastInDim S_ ![] bcast_S_S_),
    TRef.binary (TRef.of (T := ⟨S320000, .i32⟩) main_v37) (TRef.of (T := ⟨S_, .i32⟩) main_call2_call0_v0) (TRef.of (T := ⟨S320000, .i32⟩) main_v38) (fun x v => Host.reduceWindow IntOp.addi ![320000] ![1] ![319999] ![0] x v reduceWindows_S320000_S320000_w320000s1p319999_0 h_S_),
    nullary main_c_8 (constantI S_ 32 1#32),
    TRef.unary (TRef.of (T := ⟨S_, .i32⟩) main_c_8) (TRef.of (T := ⟨S_, .i32⟩) main_call3_v0) id,
    TRef.unary (TRef.of (T := ⟨S_, .i32⟩) main_call3_v0) (TRef.of (T := ⟨S320000, .i32⟩) main_call3_v1) (broadcastInDim S320000 ![] bcast_S_S320000),
    TRef.binary (TRef.of (T := ⟨S320000, .i32⟩) main_v38) (TRef.of (T := ⟨S320000, .i32⟩) main_call3_v1) (TRef.of (T := ⟨S320000, .i32⟩) main_call3_v2) Host.divsi,
    TRef.unary (TRef.of (T := ⟨S320000, .i32⟩) main_v38) (TRef.of (T := ⟨S320000, .i32⟩) main_call3_v3) signi,
    TRef.unary (TRef.of (T := ⟨S_, .i32⟩) main_call3_v0) (TRef.of (T := ⟨S_, .i32⟩) main_call3_v4) signi,
    TRef.unary (TRef.of (T := ⟨S_, .i32⟩) main_call3_v4) (TRef.of (T := ⟨S320000, .i32⟩) main_call3_v5) (broadcastInDim S320000 ![] bcast_S_S320000),
    TRef.binary (TRef.of (T := ⟨S320000, .i32⟩) main_call3_v3) (TRef.of (T := ⟨S320000, .i32⟩) main_call3_v5) (TRef.of (T := ⟨S320000, .i1⟩) main_call3_v6) (cmpi .ne),
    TRef.unary (TRef.of (T := ⟨S_, .i32⟩) main_call3_v0) (TRef.of (T := ⟨S320000, .i32⟩) main_call3_v7) (broadcastInDim S320000 ![] bcast_S_S320000),
    TRef.binary (TRef.of (T := ⟨S320000, .i32⟩) main_v38) (TRef.of (T := ⟨S320000, .i32⟩) main_call3_v7) (TRef.of (T := ⟨S320000, .i32⟩) main_call3_v8) Host.remsi,
    TRef.nullary (TRef.of (T := ⟨S_, .i32⟩) main_call3_c) (constantI S_ 32 0#32) ]

/-- @main's operations 91 … 120 of 213 (window `main_part0`). -/
abbrev ops_part0_3 : List (HloOp τ sig (Elt F)) :=
  [ TRef.unary (TRef.of (T := ⟨S_, .i32⟩) main_call3_c) (TRef.of (T := ⟨S320000, .i32⟩) main_call3_v9) (broadcastInDim S320000 ![] bcast_S_S320000),
    TRef.binary (TRef.of (T := ⟨S320000, .i32⟩) main_call3_v8) (TRef.of (T := ⟨S320000, .i32⟩) main_call3_v9) (TRef.of (T := ⟨S320000, .i1⟩) main_call3_v10) (cmpi .ne),
    TRef.binary (TRef.of (T := ⟨S320000, .i1⟩) main_call3_v6) (TRef.of (T := ⟨S320000, .i1⟩) main_call3_v10) (TRef.of (T := ⟨S320000, .i1⟩) main_call3_v11) andi,
    TRef.nullary (TRef.of (T := ⟨S_, .i32⟩) main_call3_c_0) (constantI S_ 32 1#32),
    TRef.unary (TRef.of (T := ⟨S_, .i32⟩) main_call3_c_0) (TRef.of (T := ⟨S320000, .i32⟩) main_call3_v12) (broadcastInDim S320000 ![] bcast_S_S320000),
    TRef.binary (TRef.of (T := ⟨S320000, .i32⟩) main_call3_v2) (TRef.of (T := ⟨S320000, .i32⟩) main_call3_v12) (TRef.of (T := ⟨S320000, .i32⟩) main_call3_v13) subi,
    TRef.ternary (TRef.of (T := ⟨S320000, .i1⟩) main_call3_v11) (TRef.of (T := ⟨S320000, .i32⟩) main_call3_v13) (TRef.of (T := ⟨S320000, .i32⟩) main_call3_v2) (TRef.of (T := ⟨S320000, .i32⟩) main_v39) select,
    nullary main_c_9 (constantI S_ 32 320000#32),
    TRef.unary (TRef.of (T := ⟨S_, .i32⟩) main_c_9) (TRef.of (T := ⟨S_, .i32⟩) main_call4_v0) id,
    TRef.nullary (TRef.of (T := ⟨S_, .i32⟩) main_call4_c) (constantI S_ 32 0#32),
    TRef.binary (TRef.of (T := ⟨S_, .i32⟩) main_call4_v0) (TRef.of (T := ⟨S_, .i32⟩) main_call4_c) (TRef.of (T := ⟨S_, .i1⟩) main_call4_v1) (cmpi .eq),
    TRef.nullary (TRef.of (T := ⟨S_, .i32⟩) main_call4_c_0) (constantI S_ 32 1#32),
    TRef.ternary (TRef.of (T := ⟨S_, .i1⟩) main_call4_v1) (TRef.of (T := ⟨S_, .i32⟩) main_call4_c_0) (TRef.of (T := ⟨S_, .i32⟩) main_call4_v0) (TRef.of (T := ⟨S_, .i32⟩) main_call4_v2) select,
    TRef.unary (TRef.of (T := ⟨S_, .i32⟩) main_call4_v2) (TRef.of (T := ⟨S320000, .i32⟩) main_call4_v3) (broadcastInDim S320000 ![] bcast_S_S320000),
    TRef.binary (TRef.of (T := ⟨S320000, .i32⟩) main_v39) (TRef.of (T := ⟨S320000, .i32⟩) main_call4_v3) (TRef.of (T := ⟨S320000, .i32⟩) main_call4_v4) Host.remsi,
    TRef.nullary (TRef.of (T := ⟨S_, .i32⟩) main_call4_c_1) (constantI S_ 32 0#32),
    TRef.unary (TRef.of (T := ⟨S_, .i32⟩) main_call4_c_1) (TRef.of (T := ⟨S320000, .i32⟩) main_call4_v5) (broadcastInDim S320000 ![] bcast_S_S320000),
    TRef.binary (TRef.of (T := ⟨S320000, .i32⟩) main_call4_v4) (TRef.of (T := ⟨S320000, .i32⟩) main_call4_v5) (TRef.of (T := ⟨S320000, .i1⟩) main_call4_v6) (cmpi .ne),
    TRef.nullary (TRef.of (T := ⟨S_, .i32⟩) main_call4_c_2) (constantI S_ 32 0#32),
    TRef.unary (TRef.of (T := ⟨S_, .i32⟩) main_call4_c_2) (TRef.of (T := ⟨S320000, .i32⟩) main_call4_v7) (broadcastInDim S320000 ![] bcast_S_S320000),
    TRef.binary (TRef.of (T := ⟨S320000, .i32⟩) main_call4_v4) (TRef.of (T := ⟨S320000, .i32⟩) main_call4_v7) (TRef.of (T := ⟨S320000, .i1⟩) main_call4_v8) (cmpi .slt),
    TRef.nullary (TRef.of (T := ⟨S_, .i32⟩) main_call4_c_3) (constantI S_ 32 0#32),
    TRef.binary (TRef.of (T := ⟨S_, .i32⟩) main_call4_v2) (TRef.of (T := ⟨S_, .i32⟩) main_call4_c_3) (TRef.of (T := ⟨S_, .i1⟩) main_call4_v9) (cmpi .slt),
    TRef.unary (TRef.of (T := ⟨S_, .i1⟩) main_call4_v9) (TRef.of (T := ⟨S320000, .i1⟩) main_call4_v10) (broadcastInDim S320000 ![] bcast_S_S320000),
    TRef.binary (TRef.of (T := ⟨S320000, .i1⟩) main_call4_v8) (TRef.of (T := ⟨S320000, .i1⟩) main_call4_v10) (TRef.of (T := ⟨S320000, .i1⟩) main_call4_v11) (cmpi .ne),
    TRef.binary (TRef.of (T := ⟨S320000, .i1⟩) main_call4_v11) (TRef.of (T := ⟨S320000, .i1⟩) main_call4_v6) (TRef.of (T := ⟨S320000, .i1⟩) main_call4_v12) andi,
    TRef.unary (TRef.of (T := ⟨S_, .i32⟩) main_call4_v2) (TRef.of (T := ⟨S320000, .i32⟩) main_call4_v13) (broadcastInDim S320000 ![] bcast_S_S320000),
    TRef.binary (TRef.of (T := ⟨S320000, .i32⟩) main_call4_v4) (TRef.of (T := ⟨S320000, .i32⟩) main_call4_v13) (TRef.of (T := ⟨S320000, .i32⟩) main_call4_v14) addi,
    TRef.ternary (TRef.of (T := ⟨S320000, .i1⟩) main_call4_v12) (TRef.of (T := ⟨S320000, .i32⟩) main_call4_v14) (TRef.of (T := ⟨S320000, .i32⟩) main_call4_v4) (TRef.of (T := ⟨S320000, .i32⟩) main_v40) select,
    unary main_v27_1 main_v41 ((extui 32 · natLt_1_32) : (⟨S320000, .i1⟩ : BufTy).Contents (Elt F) → (⟨S320000, .i32⟩ : BufTy).Contents (Elt F)) ]

/-- @main's operations 121 … 127 of 213 (window `main_part0`). -/
abbrev ops_part0_4 : List (HloOp τ sig (Elt F)) :=
  [ nullary main_c_10 (constantI S_ 32 0#32),
    binary main_v41 main_c_10 main_v42 ((fun x v => Host.reduce IntOp.addi x v reducesTo_S320000_S_d0 h_S_) : (⟨S320000, .i32⟩ : BufTy).Contents (Elt F) → (⟨S_, .i32⟩ : BufTy).Contents (Elt F) → (⟨S_, .i32⟩ : BufTy).Contents (Elt F)),
    unary main_v42 main_v43 (broadcastInDim S1 ![] bcast_S_S1 : (⟨S_, .i32⟩ : BufTy).Contents (Elt F) → (⟨S1, .i32⟩ : BufTy).Contents (Elt F)),
    nullary main_v44 (iotaInDim S320000 32 0),
    unary main_v43 main_v45 (broadcastInDim S320000 ![0] bcast_S1_S320000_0 : (⟨S1, .i32⟩ : BufTy).Contents (Elt F) → (⟨S320000, .i32⟩ : BufTy).Contents (Elt F)),
    binary main_v44 main_v45 main_v46 (cmpi .sge : (⟨S320000, .i32⟩ : BufTy).Contents (Elt F) → (⟨S320000, .i32⟩ : BufTy).Contents (Elt F) → (⟨S320000, .i1⟩ : BufTy).Contents (Elt F)),
    nullary main_c_11 (constantI S_ 32 0#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4))))

/-- @main's operations 128 … 157 of 213 (window `main_part1`). -/
abbrev ops_part1_0 : List (HloOp τ sig (Elt F)) :=
  [ TRef.unary (TRef.of (T := ⟨S_, .i32⟩) main_c_11) (TRef.of (T := ⟨S_, .i32⟩) main_call5_v0) id,
    TRef.unary (TRef.of (T := ⟨S_, .i32⟩) main_call5_v0) (TRef.of (T := ⟨S320000, .i32⟩) main_call5_v1) (broadcastInDim S320000 ![] bcast_S_S320000),
    TRef.ternary (TRef.of (T := ⟨S320000, .i1⟩) main_v46) (TRef.of (T := ⟨S320000, .i32⟩) main_call5_v1) (TRef.of (T := ⟨S320000, .i32⟩) main_v40) (TRef.of (T := ⟨S320000, .i32⟩) main_v47) select,
    nullary main_c_12 (constantI S_ 32 0#32),
    unary main_c_12 main_v48 (broadcastInDim S320000 ![] bcast_S_S320000 : (⟨S_, .i32⟩ : BufTy).Contents (Elt F) → (⟨S320000, .i32⟩ : BufTy).Contents (Elt F)),
    binary main_v47 main_v48 main_v49 (cmpi .slt : (⟨S320000, .i32⟩ : BufTy).Contents (Elt F) → (⟨S320000, .i32⟩ : BufTy).Contents (Elt F) → (⟨S320000, .i1⟩ : BufTy).Contents (Elt F)),
    nullary main_c_13 (constantI S_ 32 320000#32),
    unary main_c_13 main_v50 (broadcastInDim S320000 ![] bcast_S_S320000 : (⟨S_, .i32⟩ : BufTy).Contents (Elt F) → (⟨S320000, .i32⟩ : BufTy).Contents (Elt F)),
    binary main_v47 main_v50 main_v51 (addi : (⟨S320000, .i32⟩ : BufTy).Contents (Elt F) → (⟨S320000, .i32⟩ : BufTy).Contents (Elt F) → (⟨S320000, .i32⟩ : BufTy).Contents (Elt F)),
    ternary main_v49 main_v51 main_v47 main_v52 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v52 main_v53 (broadcastInDim S320000x1 ![0] bcast_S320000_S320000x1_0 : (⟨S320000, .i32⟩ : BufTy).Contents (Elt F) → (⟨S320000x1, .i32⟩ : BufTy).Contents (Elt F)),
    binary main_v27_0 main_v53 main_v54 ((fun x i => Host.gather gather_S320000_S320000x1_S320000_n_0_n_n_0_1_1 x i) : (⟨S320000, .i32⟩ : BufTy).Contents (Elt F) → (⟨S320000x1, .i32⟩ : BufTy).Contents (Elt F) → (⟨S320000, .i32⟩ : BufTy).Contents (Elt F)),
    nullary main_v55 (iotaInDim S320000 32 0),
    unary main_v27_1 main_v56 ((extui 32 · natLt_1_32) : (⟨S320000, .i1⟩ : BufTy).Contents (Elt F) → (⟨S320000, .i32⟩ : BufTy).Contents (Elt F)),
    nullary main_c_14 (constantI S_ 32 0#32),
    binary main_v56 main_c_14 main_v57 ((fun x v => Host.reduce IntOp.addi x v reducesTo_S320000_S_d0 h_S_) : (⟨S320000, .i32⟩ : BufTy).Contents (Elt F) → (⟨S_, .i32⟩ : BufTy).Contents (Elt F) → (⟨S_, .i32⟩ : BufTy).Contents (Elt F)),
    unary main_v57 main_v58 (broadcastInDim S320000 ![] bcast_S_S320000 : (⟨S_, .i32⟩ : BufTy).Contents (Elt F) → (⟨S320000, .i32⟩ : BufTy).Contents (Elt F)),
    binary main_v55 main_v58 main_v59 (cmpi .slt : (⟨S320000, .i32⟩ : BufTy).Contents (Elt F) → (⟨S320000, .i32⟩ : BufTy).Contents (Elt F) → (⟨S320000, .i1⟩ : BufTy).Contents (Elt F)),
    nullary main_c_15 (constantI S_ 32 4294967295#32),
    TRef.unary (TRef.of (T := ⟨S_, .i32⟩) main_c_15) (TRef.of (T := ⟨S320000, .i32⟩) main_call6_v0) (broadcastInDim S320000 ![] bcast_S_S320000),
    TRef.ternary (TRef.of (T := ⟨S320000, .i1⟩) main_v59) (TRef.of (T := ⟨S320000, .i32⟩) main_v54) (TRef.of (T := ⟨S320000, .i32⟩) main_call6_v0) (TRef.of (T := ⟨S320000, .i32⟩) main_v60) select,
    TRef.unary (TRef.of (T := ⟨S320000, .i1⟩) main_v27_1) (TRef.of (T := ⟨S320000, .i32⟩) main_call7_v0) (extui 32 · natLt_1_32),
    TRef.nullary (TRef.of (T := ⟨S_, .i32⟩) main_call7_call0_c) (constantI S_ 32 0#32),
    TRef.unary (TRef.of (T := ⟨S_, .i32⟩) main_call7_call0_c) (TRef.of (T := ⟨S_, .i32⟩) main_call7_call0_v0) (broadcastInDim S_ ![] bcast_S_S_),
    TRef.binary (TRef.of (T := ⟨S320000, .i32⟩) main_call7_v0) (TRef.of (T := ⟨S_, .i32⟩) main_call7_call0_v0) (TRef.of (T := ⟨S320000, .i32⟩) main_v61) (fun x v => Host.reduceWindow IntOp.addi ![320000] ![1] ![319999] ![0] x v reduceWindows_S320000_S320000_w320000s1p319999_0 h_S_),
    nullary main_c_16 (constantI S_ 32 1#32),
    unary main_c_16 main_v62 (broadcastInDim S320000 ![] bcast_S_S320000 : (⟨S_, .i32⟩ : BufTy).Contents (Elt F) → (⟨S320000, .i32⟩ : BufTy).Contents (Elt F)),
    binary main_v61 main_v62 main_v63 (subi : (⟨S320000, .i32⟩ : BufTy).Contents (Elt F) → (⟨S320000, .i32⟩ : BufTy).Contents (Elt F) → (⟨S320000, .i32⟩ : BufTy).Contents (Elt F)),
    nullary main_c_17 (constantI S_ 32 0#32),
    unary main_c_17 main_v64 (broadcastInDim S320000 ![] bcast_S_S320000 : (⟨S_, .i32⟩ : BufTy).Contents (Elt F) → (⟨S320000, .i32⟩ : BufTy).Contents (Elt F)) ]

/-- @main's operations 158 … 187 of 213 (window `main_part1`). -/
abbrev ops_part1_1 : List (HloOp τ sig (Elt F)) :=
  [ nullary main_c_18 (constantI S_ 32 0#32),
    unary main_c_18 main_v65 (broadcastInDim S320000 ![] bcast_S_S320000 : (⟨S_, .i32⟩ : BufTy).Contents (Elt F) → (⟨S320000, .i32⟩ : BufTy).Contents (Elt F)),
    binary main_v27_2 main_v65 main_v66 (cmpi .slt : (⟨S320000, .i32⟩ : BufTy).Contents (Elt F) → (⟨S320000, .i32⟩ : BufTy).Contents (Elt F) → (⟨S320000, .i1⟩ : BufTy).Contents (Elt F)),
    nullary main_c_19 (constantI S_ 32 320000#32),
    unary main_c_19 main_v67 (broadcastInDim S320000 ![] bcast_S_S320000 : (⟨S_, .i32⟩ : BufTy).Contents (Elt F) → (⟨S320000, .i32⟩ : BufTy).Contents (Elt F)),
    binary main_v27_2 main_v67 main_v68 (addi : (⟨S320000, .i32⟩ : BufTy).Contents (Elt F) → (⟨S320000, .i32⟩ : BufTy).Contents (Elt F) → (⟨S320000, .i32⟩ : BufTy).Contents (Elt F)),
    ternary main_v66 main_v68 main_v27_2 main_v69 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v69 main_v70 (broadcastInDim S320000x1 ![0] bcast_S320000_S320000x1_0 : (⟨S320000, .i32⟩ : BufTy).Contents (Elt F) → (⟨S320000x1, .i32⟩ : BufTy).Contents (Elt F)),
    ternary main_v64 main_v70 main_v63 main_v71 ((fun x i u => Host.scatter scatter_S320000_S320000x1_S320000_n_0_0_1 (fun _ b => b) x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)),
    nullary main_c_20 (constantI S_ 32 0#32),
    unary main_c_20 main_v72 (broadcastInDim S320000 ![] bcast_S_S320000 : (⟨S_, .i32⟩ : BufTy).Contents (Elt F) → (⟨S320000, .i32⟩ : BufTy).Contents (Elt F)),
    nullary main_c_21 (constantI S_ 32 0#32),
    TRef.unary (TRef.of (T := ⟨S_, .i32⟩) main_c_21) (TRef.of (T := ⟨S_, .i32⟩) main_call8_v0) id,
    TRef.unary (TRef.of (T := ⟨S_, .i32⟩) main_call8_v0) (TRef.of (T := ⟨S320000, .i32⟩) main_call8_v1) (broadcastInDim S320000 ![] bcast_S_S320000),
    TRef.binary (TRef.of (T := ⟨S320000, .i32⟩) main_call8_v1) (TRef.of (T := ⟨S320000, .i32⟩) main_v71) (TRef.of (T := ⟨S320000, .i32⟩) main_v73) maxsi,
    nullary main_c_22 (constantI S_ 32 0#32),
    unary main_c_22 main_v74 (broadcastInDim S320000 ![] bcast_S_S320000 : (⟨S_, .i32⟩ : BufTy).Contents (Elt F) → (⟨S320000, .i32⟩ : BufTy).Contents (Elt F)),
    binary main_v73 main_v74 main_v75 (cmpi .slt : (⟨S320000, .i32⟩ : BufTy).Contents (Elt F) → (⟨S320000, .i32⟩ : BufTy).Contents (Elt F) → (⟨S320000, .i1⟩ : BufTy).Contents (Elt F)),
    nullary main_c_23 (constantI S_ 32 320000#32),
    unary main_c_23 main_v76 (broadcastInDim S320000 ![] bcast_S_S320000 : (⟨S_, .i32⟩ : BufTy).Contents (Elt F) → (⟨S320000, .i32⟩ : BufTy).Contents (Elt F)),
    binary main_v73 main_v76 main_v77 (addi : (⟨S320000, .i32⟩ : BufTy).Contents (Elt F) → (⟨S320000, .i32⟩ : BufTy).Contents (Elt F) → (⟨S320000, .i32⟩ : BufTy).Contents (Elt F)),
    ternary main_v75 main_v77 main_v73 main_v78 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v78 main_v79 (broadcastInDim S320000x1 ![0] bcast_S320000_S320000x1_0 : (⟨S320000, .i32⟩ : BufTy).Contents (Elt F) → (⟨S320000x1, .i32⟩ : BufTy).Contents (Elt F)),
    nullary main_c_24 (constantI S_ 32 1#32),
    unary main_c_24 main_v80 (broadcastInDim S320000 ![] bcast_S_S320000 : (⟨S_, .i32⟩ : BufTy).Contents (Elt F) → (⟨S320000, .i32⟩ : BufTy).Contents (Elt F)),
    ternary main_v72 main_v79 main_v80 main_v81 ((fun x i u => Host.scatter scatter_S320000_S320000x1_S320000_n_0_0_1 IntOp.addi x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)),
    nullary main_c_25 (constantI S_ 32 1#32),
    unary main_c_25 main_v82 (broadcastInDim S320000 ![] bcast_S_S320000 : (⟨S_, .i32⟩ : BufTy).Contents (Elt F) → (⟨S320000, .i32⟩ : BufTy).Contents (Elt F)),
    binary main_v81 main_v82 main_v83 (maxsi : (⟨S320000, .i32⟩ : BufTy).Contents (Elt F) → (⟨S320000, .i32⟩ : BufTy).Contents (Elt F) → (⟨S320000, .i32⟩ : BufTy).Contents (Elt F)),
    unary main_v83 main_v84 (sitofp .f32 : (⟨S320000, .i32⟩ : BufTy).Contents (Elt F) → (⟨S320000, .f32⟩ : BufTy).Contents (Elt F)) ]

/-- @main's operations 188 … 195 of 213 (window `main_part1`). -/
abbrev ops_part1_2 : List (HloOp τ sig (Elt F)) :=
  [ unary main_v7 main_v85 (sitofp .f32 : (⟨S320000x4, .i32⟩ : BufTy).Contents (Elt F) → (⟨S320000x4, .f32⟩ : BufTy).Contents (Elt F)),
    nullary main_cst (constant S_ .f32 0x00000000#32),
    unary main_cst main_v86 (broadcastInDim S320000x4 ![] bcast_S_S320000x4 : (⟨S_, .f32⟩ : BufTy).Contents (Elt F) → (⟨S320000x4, .f32⟩ : BufTy).Contents (Elt F)),
    unary main_v71 main_v87 (broadcastInDim S320000x1 ![0] bcast_S320000_S320000x1_0 : (⟨S320000, .i32⟩ : BufTy).Contents (Elt F) → (⟨S320000x1, .i32⟩ : BufTy).Contents (Elt F)),
    ternary main_v86 main_v87 main_v85 main_v88 ((fun x i u => Host.scatterAdd scatter_S320000x4_S320000x1_S320000x4_1_0_0_1 x i u) : (⟨S320000x4, .f32⟩ : BufTy).Contents (Elt F) → (⟨S320000x1, .i32⟩ : BufTy).Contents (Elt F) → (⟨S320000x4, .f32⟩ : BufTy).Contents (Elt F) → (⟨S320000x4, .f32⟩ : BufTy).Contents (Elt F)),
    unary main_v84 main_v89 (broadcastInDim S320000x1 ![0] bcast_S320000_S320000x1_0 : (⟨S320000, .f32⟩ : BufTy).Contents (Elt F) → (⟨S320000x1, .f32⟩ : BufTy).Contents (Elt F)),
    unary main_v89 main_v90 (broadcastInDim S320000x4 ![0, 1] bcast_S320000x1_S320000x4_0_1 : (⟨S320000x1, .f32⟩ : BufTy).Contents (Elt F) → (⟨S320000x4, .f32⟩ : BufTy).Contents (Elt F)),
    binary main_v88 main_v90 main_v91 (Host.divf : (⟨S320000x4, .f32⟩ : BufTy).Contents (Elt F) → (⟨S320000x4, .f32⟩ : BufTy).Contents (Elt F) → (⟨S320000x4, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 196 … 213 of 213 (window `main_part2`). -/
abbrev ops_part2 : List (HloOp τ sig (Elt F)) :=
  [ unary main_v91 main_v92 (fptosi 32 : (⟨S320000x4, .f32⟩ : BufTy).Contents (Elt F) → (⟨S320000x4, .i32⟩ : BufTy).Contents (Elt F)),
    nullary main_c_26 (constantI S_ 32 0#32),
    unary main_c_26 main_v93 (broadcastInDim S320000 ![] bcast_S_S320000 : (⟨S_, .i32⟩ : BufTy).Contents (Elt F) → (⟨S320000, .i32⟩ : BufTy).Contents (Elt F)),
    binary main_v71 main_v93 main_v94 (cmpi .slt : (⟨S320000, .i32⟩ : BufTy).Contents (Elt F) → (⟨S320000, .i32⟩ : BufTy).Contents (Elt F) → (⟨S320000, .i1⟩ : BufTy).Contents (Elt F)),
    nullary main_c_27 (constantI S_ 32 320000#32),
    unary main_c_27 main_v95 (broadcastInDim S320000 ![] bcast_S_S320000 : (⟨S_, .i32⟩ : BufTy).Contents (Elt F) → (⟨S320000, .i32⟩ : BufTy).Contents (Elt F)),
    binary main_v71 main_v95 main_v96 (addi : (⟨S320000, .i32⟩ : BufTy).Contents (Elt F) → (⟨S320000, .i32⟩ : BufTy).Contents (Elt F) → (⟨S320000, .i32⟩ : BufTy).Contents (Elt F)),
    ternary main_v94 main_v96 main_v71 main_v97 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v97 main_v98 (broadcastInDim S320000x1 ![0] bcast_S320000_S320000x1_0 : (⟨S320000, .i32⟩ : BufTy).Contents (Elt F) → (⟨S320000x1, .i32⟩ : BufTy).Contents (Elt F)),
    binary main_v81 main_v98 main_v99 ((fun x i => Host.gather gather_S320000_S320000x1_S320000_n_0_n_n_0_1_1 x i) : (⟨S320000, .i32⟩ : BufTy).Contents (Elt F) → (⟨S320000x1, .i32⟩ : BufTy).Contents (Elt F) → (⟨S320000, .i32⟩ : BufTy).Contents (Elt F)),
    unary main_v99 main_v100 (broadcastInDim S320000x1 ![0] bcast_S320000_S320000x1_0 : (⟨S320000, .i32⟩ : BufTy).Contents (Elt F) → (⟨S320000x1, .i32⟩ : BufTy).Contents (Elt F)),
    unary main_v100 main_v101 (sitofp .f32 : (⟨S320000x1, .i32⟩ : BufTy).Contents (Elt F) → (⟨S320000x1, .f32⟩ : BufTy).Contents (Elt F)),
    unary main_v101 main_v102 (broadcastInDim S320000x128 ![0, 1] bcast_S320000x1_S320000x128_0_1 : (⟨S320000x1, .f32⟩ : BufTy).Contents (Elt F) → (⟨S320000x128, .f32⟩ : BufTy).Contents (Elt F)),
    binary main_arg0 main_v102 main_v103 (Host.divf : (⟨S320000x128, .f32⟩ : BufTy).Contents (Elt F) → (⟨S320000x128, .f32⟩ : BufTy).Contents (Elt F) → (⟨S320000x128, .f32⟩ : BufTy).Contents (Elt F)),
    nullary main_cst_28 (constant S_ .f32 0x00000000#32),
    unary main_cst_28 main_v104 (broadcastInDim S320000x128 ![] bcast_S_S320000x128 : (⟨S_, .f32⟩ : BufTy).Contents (Elt F) → (⟨S320000x128, .f32⟩ : BufTy).Contents (Elt F)),
    unary main_v71 main_v105 (broadcastInDim S320000x1 ![0] bcast_S320000_S320000x1_0 : (⟨S320000, .i32⟩ : BufTy).Contents (Elt F) → (⟨S320000x1, .i32⟩ : BufTy).Contents (Elt F)),
    ternary main_v104 main_v105 main_v103 main_v106 ((fun x i u => Host.scatterAdd scatter_S320000x128_S320000x1_S320000x128_1_0_0_1 x i u) : (⟨S320000x128, .f32⟩ : BufTy).Contents (Elt F) → (⟨S320000x1, .i32⟩ : BufTy).Contents (Elt F) → (⟨S320000x128, .f32⟩ : BufTy).Contents (Elt F) → (⟨S320000x128, .f32⟩ : BufTy).Contents (Elt F)) ]

/-- @main's 213 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨reshape_bufs_sub .., binary_bufs_sub .., reshape_bufs_sub .., unary_bufs_sub .., unary_bufs_sub .., unary_bufs_sub .., reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., binary_bufs_sub .., nullary_bufs_sub .., binary_bufs_sub .., nullary_bufs_sub .., unary_bufs_sub .., ternary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
set_option maxRecDepth 8192 in
theorem ops_part0_4_fresh : (ops_part0_4 : List (HloOp τ sig (Elt F))).Forall fun op => op.fresh = ∅ :=
  ⟨rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., binary_bufs_sub .., unary_bufs_sub .., binary_bufs_sub .., nullary_bufs_sub .., unary_bufs_sub .., ternary_bufs_sub .., unary_bufs_sub .., nullary_bufs_sub .., unary_bufs_sub .., binary_bufs_sub .., nullary_bufs_sub .., unary_bufs_sub .., binary_bufs_sub .., nullary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., nullary_bufs_sub .., unary_bufs_sub .., unary_bufs_sub .., ternary_bufs_sub .., unary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., unary_bufs_sub .., ternary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

/-- The buffers that the operations write, in order. -/
abbrev writes : List (Ref sig .tc) := [main_v0, main_v1, main_v2, main_v3, main_c, main_v4, main_v5, main_v6, main_v7, main_c_0, main_v8, main_v9, main_v10, main_v11, main_c_1, main_v12, main_v13, main_v14, main_v15, main_v16, main_c_2, main_v17, main_v18, main_v19, main_v20, main_v21, main_c_3, main_v22, main_v23, main_v24, main_v25, main_v26, main_call0_v0, main_call0_v1, main_call0_v2, main_call0_call0_v0, main_call0_call0_v1, main_call0_call0_v2, main_call0_call0_v3_0, main_v27_2, main_call0_c, main_call0_v4, main_call0_v5, main_call0_c_0, main_call0_v6, main_call0_v7, main_call0_v8, main_call0_v9, main_v27_0, main_call0_c_1, main_call0_v11, main_call0_v12, main_call0_v13, main_call0_v14, main_call0_c_2, main_call0_v15, main_call0_c_3, main_call0_v16, main_v27_1, main_call1_v0, main_call1_call0_c, main_call1_call0_v0, main_v28, main_c_4, main_v29, main_c_5, main_v30, main_v31, main_c_6, main_v32, main_v33, main_v34, main_v35, main_c_7, main_v36, main_v37, main_call2_call0_c, main_call2_call0_v0, main_v38, main_c_8, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v39, main_c_9, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v40, main_v41, main_c_10, main_v42, main_v43, main_v44, main_v45, main_v46, main_c_11, main_call5_v0, main_call5_v1, main_v47, main_c_12, main_v48, main_v49, main_c_13, main_v50, main_v51, main_v52, main_v53, main_v54, main_v55, main_v56, main_c_14, main_v57, main_v58, main_v59, main_c_15, main_call6_v0, main_v60, main_call7_v0, main_call7_call0_c, main_call7_call0_v0, main_v61, main_c_16, main_v62, main_v63, main_c_17, main_v64, main_c_18, main_v65, main_v66, main_c_19, main_v67, main_v68, main_v69, main_v70, main_v71, main_c_20, main_v72, main_c_21, main_call8_v0, main_call8_v1, main_v73, main_c_22, main_v74, main_v75, main_c_23, main_v76, main_v77, main_v78, main_v79, main_c_24, main_v80, main_v81, main_c_25, main_v82, main_v83, main_v84, main_v85, main_cst, main_v86, main_v87, main_v88, main_v89, main_v90, main_v91, main_v92, main_c_26, main_v93, main_v94, main_c_27, main_v95, main_v96, main_v97, main_v98, main_v99, main_v100, main_v101, main_v102, main_v103, main_cst_28, main_v104, main_v105, main_v106]

theorem ops_writes : Cert.Words.Writes (ops : List (HloOp τ sig (Elt F))) writes := rfl

/-- Every execution of the reference ends with every buffer as the list of operations leaves it. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.ReferenceIdeal.Hand
-- ==== Proof.ReferenceIdeal.Values.lean ====
module

public import proofs.«01_k».proof.Proof.ReferenceIdeal.Ops

/-! # The reference's values, operation by operation

`val V b` is what buffer `b` holds after the reference has run from contents `V`. Each theorem `val_b` is the
operation that writes `b`. -/

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] extractStridedSlice Host.reduce Host.reduceWindow Host.scatter Host.scatterAdd Host.gather Host.sort2 shapeCast transpose Host.reverse broadcastInDim

/-- What buffer `b` holds after the reference. -/
abbrev val (V : Valuation τ sig (Elt F)) (b : Ref sig .tc) : (Proc.devRef (τ := τ) .tc b).ty.Contents (Elt F) := after ops V (Proc.devRef .tc b)

theorem val_main_arg0 (V : Valuation τ sig (Elt F)) : val V main_arg0 = V (Proc.devRef .tc main_arg0) :=
  ops_writes.keep V 0 (by decide +kernel)

theorem val_main_arg1 (V : Valuation τ sig (Elt F)) : val V main_arg1 = V (Proc.devRef .tc main_arg1) :=
  ops_writes.keep V 0 (by decide +kernel)

theorem val_main_arg2 (V : Valuation τ sig (Elt F)) : val V main_arg2 = V (Proc.devRef .tc main_arg2) :=
  ops_writes.keep V 0 (by decide +kernel)

theorem val_main_arg3 (V : Valuation τ sig (Elt F)) : val V main_arg3 = V (Proc.devRef .tc main_arg3) :=
  ops_writes.keep V 0 (by decide +kernel)

theorem val_main_v0 (V : Valuation τ sig (Elt F)) : val V main_v0 = ((fun l r => Host.dotGeneral dot_S320000x128_S128x3_S320000x3_1_0_0_1_n_n none l r) : (⟨S320000x128, .f32⟩ : BufTy).Contents (Elt F) → (⟨S128x3, .f32⟩ : BufTy).Contents (Elt F) → (⟨S320000x3, .f32⟩ : BufTy).Contents (Elt F)) (val V main_arg0) (val V main_arg2) :=
  ops_writes.binary V 0 (a := main_arg0) (b := main_arg2) (y := main_v0) ((fun l r => Host.dotGeneral dot_S320000x128_S128x3_S320000x3_1_0_0_1_n_n none l r) : (⟨S320000x128, .f32⟩ : BufTy).Contents (Elt F) → (⟨S128x3, .f32⟩ : BufTy).Contents (Elt F) → (⟨S320000x3, .f32⟩ : BufTy).Contents (Elt F)) rfl (by decide +kernel) (by decide +kernel) (by decide +kernel)

theorem val_main_v1 (V : Valuation τ sig (Elt F)) : val V main_v1 = (broadcastInDim S1x3 ![1] bcast_S3_S1x3_1 : (⟨S3, .f32⟩ : BufTy).Contents (Elt F) → (⟨S1x3, .f32⟩ : BufTy).Contents (Elt F)) (val V main_arg3) :=
  ops_writes.unary V 1 (x := main_arg3) (y := main_v1) (broadcastInDim S1x3 ![1] bcast_S3_S1x3_1 : (⟨S3, .f32⟩ : BufTy).Contents (Elt F) → (⟨S1x3, .f32⟩ : BufTy).Contents (Elt F)) rfl (by decide +kernel) (by decide +kernel)

theorem val_main_v2 (V : Valuation τ sig (Elt F)) : val V main_v2 = (broadcastInDim S320000x3 ![0, 1] bcast_S1x3_S320000x3_0_1 : (⟨S1x3, .f32⟩ : BufTy).Contents (Elt F) → (⟨S320000x3, .f32⟩ : BufTy).Contents (Elt F)) (val V main_v1) :=
  ops_writes.unary V 2 (x := main_v1) (y := main_v2) (broadcastInDim S320000x3 ![0, 1] bcast_S1x3_S320000x3_0_1 : (⟨S1x3, .f32⟩ : BufTy).Contents (Elt F) → (⟨S320000x3, .f32⟩ : BufTy).Contents (Elt F)) rfl (by decide +kernel) (by decide +kernel)

theorem val_main_v3 (V : Valuation τ sig (Elt F)) : val V main_v3 = (addf : (⟨S320000x3, .f32⟩ : BufTy).Contents (Elt F) → (⟨S320000x3, .f32⟩ : BufTy).Contents (Elt F) → (⟨S320000x3, .f32⟩ : BufTy).Contents (Elt F)) (val V main_v0) (val V main_v2) :=
  ops_writes.binary V 3 (a := main_v0) (b := main_v2) (y := main_v3) (addf : (⟨S320000x3, .f32⟩ : BufTy).Contents (Elt F) → (⟨S320000x3, .f32⟩ : BufTy).Contents (Elt F) → (⟨S320000x3, .f32⟩ : BufTy).Contents (Elt F)) rfl (by decide +kernel) (by decide +kernel) (by decide +kernel)

theorem val_main_c (V : Valuation τ sig (Elt F)) : val V main_c = (constantI S_ 32 0#32) :=
  ops_writes.nullary V 4 (y := main_c) (constantI S_ 32 0#32) rfl (by decide +kernel)

theorem val_main_v4 (V : Valuation τ sig (Elt F)) : val V main_v4 = (broadcastInDim S320000x1 ![] bcast_S_S320000x1 : (⟨S_, .i32⟩ : BufTy).Contents (Elt F) → (⟨S320000x1, .i32⟩ : BufTy).Contents (Elt F)) (val V main_c) :=
  ops_writes.unary V 5 (x := main_c) (y := main_v4) (broadcastInDim S320000x1 ![] bcast_S_S320000x1 : (⟨S_, .i32⟩ : BufTy).Contents (Elt F) → (⟨S320000x1, .i32⟩ : BufTy).Contents (Elt F)) rfl (by decide +kernel) (by decide +kernel)

theorem val_main_v5 (V : Valuation τ sig (Elt F)) : val V main_v5 = (fptosi 32 : (⟨S320000x3, .f32⟩ : BufTy).Contents (Elt F) → (⟨S320000x3, .i32⟩ : BufTy).Contents (Elt F)) (val V main_v3) :=
  ops_writes.unary V 6 (x := main_v3) (y := main_v5) (fptosi 32 : (⟨S320000x3, .f32⟩ : BufTy).Contents (Elt F) → (⟨S320000x3, .i32⟩ : BufTy).Contents (Elt F)) rfl (by decide +kernel) (by decide +kernel)

theorem val_main_v6 (V : Valuation τ sig (Elt F)) : val V main_v6 = (fn_main_v6 (F := F)) (val V main_v4) (val V main_v5) :=
  ops_writes.binary V 7 (a := main_v4) (b := main_v5) (y := main_v6) (fn_main_v6 (F := F)) rfl (by decide +kernel) (by decide +kernel) (by decide +kernel)

theorem val_main_v7 (V : Valuation τ sig (Elt F)) : val V main_v7 = (addi : (⟨S320000x4, .i32⟩ : BufTy).Contents (Elt F) → (⟨S320000x4, .i32⟩ : BufTy).Contents (Elt F) → (⟨S320000x4, .i32⟩ : BufTy).Contents (Elt F)) (val V main_arg1) (val V main_v6) :=
  ops_writes.binary V 8 (a := main_arg1) (b := main_v6) (y := main_v7) (addi : (⟨S320000x4, .i32⟩ : BufTy).Contents (Elt F) → (⟨S320000x4, .i32⟩ : BufTy).Contents (Elt F) → (⟨S320000x4, .i32⟩ : BufTy).Contents (Elt F)) rfl (by decide +kernel) (by decide +kernel) (by decide +kernel)

theorem val_main_c_0 (V : Valuation τ sig (Elt F)) : val V main_c_0 = (constantI S_ 32 1024#32) :=
  ops_writes.nullary V 9 (y := main_c_0) (constantI S_ 32 1024#32) rfl (by decide +kernel)

theorem val_main_v8 (V : Valuation τ sig (Elt F)) : val V main_v8 = (broadcastInDim S320000x4 ![] bcast_S_S320000x4 : (⟨S_, .i32⟩ : BufTy).Contents (Elt F) → (⟨S320000x4, .i32⟩ : BufTy).Contents (Elt F)) (val V main_c_0) :=
  ops_writes.unary V 10 (x := main_c_0) (y := main_v8) (broadcastInDim S320000x4 ![] bcast_S_S320000x4 : (⟨S_, .i32⟩ : BufTy).Contents (Elt F) → (⟨S320000x4, .i32⟩ : BufTy).Contents (Elt F)) rfl (by decide +kernel) (by decide +kernel)

theorem val_main_v9 (V : Valuation τ sig (Elt F)) : val V main_v9 = (addi : (⟨S320000x4, .i32⟩ : BufTy).Contents (Elt F) → (⟨S320000x4, .i32⟩ : BufTy).Contents (Elt F) → (⟨S320000x4, .i32⟩ : BufTy).Contents (Elt F)) (val V main_v7) (val V main_v8) :=
  ops_writes.binary V 11 (a := main_v7) (b := main_v8) (y := main_v9) (addi : (⟨S320000x4, .i32⟩ : BufTy).Contents (Elt F) → (⟨S320000x4, .i32⟩ : BufTy).Contents (Elt F) → (⟨S320000x4, .i32⟩ : BufTy).Contents (Elt F)) rfl (by decide +kernel) (by decide +kernel) (by decide +kernel)

theorem val_main_v10 (V : Valuation τ sig (Elt F)) : val V main_v10 = ((extractStridedSlice S320000x1 ![0, 0] · slices_S320000x4_S320000x1_0_0) : (⟨S320000x4, .i32⟩ : BufTy).Contents (Elt F) → (⟨S320000x1, .i32⟩ : BufTy).Contents (Elt F)) (val V main_v9) :=
  ops_writes.unary V 12 (x := main_v9) (y := main_v10) ((extractStridedSlice S320000x1 ![0, 0] · slices_S320000x4_S320000x1_0_0) : (⟨S320000x4, .i32⟩ : BufTy).Contents (Elt F) → (⟨S320000x1, .i32⟩ : BufTy).Contents (Elt F)) rfl (by decide +kernel) (by decide +kernel)

theorem val_main_v11 (V : Valuation τ sig (Elt F)) : val V main_v11 = ((fun v => shapeCast S320000 v shapeCasts_S320000x1_S320000) : (⟨S320000x1, .i32⟩ : BufTy).Contents (Elt F) → (⟨S320000, .i32⟩ : BufTy).Contents (Elt F)) (val V main_v10) :=
  ops_writes.reshape V 13 (x := main_v10) (y := main_v11) rfl (by decide +kernel) (by decide +kernel)

theorem val_main_c_1 (V : Valuation τ sig (Elt F)) : val V main_c_1 = (constantI S_ 32 4096#32) :=
  ops_writes.nullary V 14 (y := main_c_1) (constantI S_ 32 4096#32) rfl (by decide +kernel)

theorem val_main_v12 (V : Valuation τ sig (Elt F)) : val V main_v12 = (broadcastInDim S320000 ![] bcast_S_S320000 : (⟨S_, .i32⟩ : BufTy).Contents (Elt F) → (⟨S320000, .i32⟩ : BufTy).Contents (Elt F)) (val V main_c_1) :=
  ops_writes.unary V 15 (x := main_c_1) (y := main_v12) (broadcastInDim S320000 ![] bcast_S_S320000 : (⟨S_, .i32⟩ : BufTy).Contents (Elt F) → (⟨S320000, .i32⟩ : BufTy).Contents (Elt F)) rfl (by decide +kernel) (by decide +kernel)

theorem val_main_v13 (V : Valuation τ sig (Elt F)) : val V main_v13 = (muli : (⟨S320000, .i32⟩ : BufTy).Contents (Elt F) → (⟨S320000, .i32⟩ : BufTy).Contents (Elt F) → (⟨S320000, .i32⟩ : BufTy).Contents (Elt F)) (val V main_v11) (val V main_v12) :=
  ops_writes.binary V 16 (a := main_v11) (b := main_v12) (y := main_v13) (muli : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v14 (V : Valuation τ sig (Elt F)) : val V main_v14 = ((extractStridedSlice S320000x1 ![0, 1] · slices_S320000x4_S320000x1_0_1) : (⟨S320000x4, .i32⟩ : BufTy).Contents (Elt F) → (⟨S320000x1, .i32⟩ : BufTy).Contents (Elt F)) (val V main_v9) :=
  ops_writes.unary V 17 (x := main_v9) (y := main_v14) ((extractStridedSlice S320000x1 ![0, 1] · slices_S320000x4_S320000x1_0_1) : (⟨S320000x4, .i32⟩ : BufTy).Contents (Elt F) → (⟨S320000x1, .i32⟩ : BufTy).Contents (Elt F)) rfl (by decide +kernel) (by decide +kernel)

theorem val_main_v15 (V : Valuation τ sig (Elt F)) : val V main_v15 = ((fun v => shapeCast S320000 v shapeCasts_S320000x1_S320000) : (⟨S320000x1, .i32⟩ : BufTy).Contents (Elt F) → (⟨S320000, .i32⟩ : BufTy).Contents (Elt F)) (val V main_v14) :=
  ops_writes.reshape V 18 (x := main_v14) (y := main_v15) rfl (by decide +kernel) (by decide +kernel)

theorem val_main_v16 (V : Valuation τ sig (Elt F)) : val V main_v16 = (addi : (⟨S320000, .i32⟩ : BufTy).Contents (Elt F) → (⟨S320000, .i32⟩ : BufTy).Contents (Elt F) → (⟨S320000, .i32⟩ : BufTy).Contents (Elt F)) (val V main_v13) (val V main_v15) :=
  ops_writes.binary V 19 (a := main_v13) (b := main_v15) (y := main_v16) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_c_2 (V : Valuation τ sig (Elt F)) : val V main_c_2 = (constantI S_ 32 4096#32) :=
  ops_writes.nullary V 20 (y := main_c_2) (constantI S_ 32 4096#32) rfl (by decide +kernel)

theorem val_main_v17 (V : Valuation τ sig (Elt F)) : val V main_v17 = (broadcastInDim S320000 ![] bcast_S_S320000 : (⟨S_, .i32⟩ : BufTy).Contents (Elt F) → (⟨S320000, .i32⟩ : BufTy).Contents (Elt F)) (val V main_c_2) :=
  ops_writes.unary V 21 (x := main_c_2) (y := main_v17) (broadcastInDim S320000 ![] bcast_S_S320000 : (⟨S_, .i32⟩ : BufTy).Contents (Elt F) → (⟨S320000, .i32⟩ : BufTy).Contents (Elt F)) rfl (by decide +kernel) (by decide +kernel)

theorem val_main_v18 (V : Valuation τ sig (Elt F)) : val V main_v18 = (muli : (⟨S320000, .i32⟩ : BufTy).Contents (Elt F) → (⟨S320000, .i32⟩ : BufTy).Contents (Elt F) → (⟨S320000, .i32⟩ : BufTy).Contents (Elt F)) (val V main_v16) (val V main_v17) :=
  ops_writes.binary V 22 (a := main_v16) (b := main_v17) (y := main_v18) (muli : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v19 (V : Valuation τ sig (Elt F)) : val V main_v19 = ((extractStridedSlice S320000x1 ![0, 2] · slices_S320000x4_S320000x1_0_2) : (⟨S320000x4, .i32⟩ : BufTy).Contents (Elt F) → (⟨S320000x1, .i32⟩ : BufTy).Contents (Elt F)) (val V main_v9) :=
  ops_writes.unary V 23 (x := main_v9) (y := main_v19) ((extractStridedSlice S320000x1 ![0, 2] · slices_S320000x4_S320000x1_0_2) : (⟨S320000x4, .i32⟩ : BufTy).Contents (Elt F) → (⟨S320000x1, .i32⟩ : BufTy).Contents (Elt F)) rfl (by decide +kernel) (by decide +kernel)

theorem val_main_v20 (V : Valuation τ sig (Elt F)) : val V main_v20 = ((fun v => shapeCast S320000 v shapeCasts_S320000x1_S320000) : (⟨S320000x1, .i32⟩ : BufTy).Contents (Elt F) → (⟨S320000, .i32⟩ : BufTy).Contents (Elt F)) (val V main_v19) :=
  ops_writes.reshape V 24 (x := main_v19) (y := main_v20) rfl (by decide +kernel) (by decide +kernel)

theorem val_main_v21 (V : Valuation τ sig (Elt F)) : val V main_v21 = (addi : (⟨S320000, .i32⟩ : BufTy).Contents (Elt F) → (⟨S320000, .i32⟩ : BufTy).Contents (Elt F) → (⟨S320000, .i32⟩ : BufTy).Contents (Elt F)) (val V main_v18) (val V main_v20) :=
  ops_writes.binary V 25 (a := main_v18) (b := main_v20) (y := main_v21) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_c_3 (V : Valuation τ sig (Elt F)) : val V main_c_3 = (constantI S_ 32 4096#32) :=
  ops_writes.nullary V 26 (y := main_c_3) (constantI S_ 32 4096#32) rfl (by decide +kernel)

theorem val_main_v22 (V : Valuation τ sig (Elt F)) : val V main_v22 = (broadcastInDim S320000 ![] bcast_S_S320000 : (⟨S_, .i32⟩ : BufTy).Contents (Elt F) → (⟨S320000, .i32⟩ : BufTy).Contents (Elt F)) (val V main_c_3) :=
  ops_writes.unary V 27 (x := main_c_3) (y := main_v22) (broadcastInDim S320000 ![] bcast_S_S320000 : (⟨S_, .i32⟩ : BufTy).Contents (Elt F) → (⟨S320000, .i32⟩ : BufTy).Contents (Elt F)) rfl (by decide +kernel) (by decide +kernel)

theorem val_main_v23 (V : Valuation τ sig (Elt F)) : val V main_v23 = (muli : (⟨S320000, .i32⟩ : BufTy).Contents (Elt F) → (⟨S320000, .i32⟩ : BufTy).Contents (Elt F) → (⟨S320000, .i32⟩ : BufTy).Contents (Elt F)) (val V main_v21) (val V main_v22) :=
  ops_writes.binary V 28 (a := main_v21) (b := main_v22) (y := main_v23) (muli : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v24 (V : Valuation τ sig (Elt F)) : val V main_v24 = ((extractStridedSlice S320000x1 ![0, 3] · slices_S320000x4_S320000x1_0_3) : (⟨S320000x4, .i32⟩ : BufTy).Contents (Elt F) → (⟨S320000x1, .i32⟩ : BufTy).Contents (Elt F)) (val V main_v9) :=
  ops_writes.unary V 29 (x := main_v9) (y := main_v24) ((extractStridedSlice S320000x1 ![0, 3] · slices_S320000x4_S320000x1_0_3) : (⟨S320000x4, .i32⟩ : BufTy).Contents (Elt F) → (⟨S320000x1, .i32⟩ : BufTy).Contents (Elt F)) rfl (by decide +kernel) (by decide +kernel)

theorem val_main_v25 (V : Valuation τ sig (Elt F)) : val V main_v25 = ((fun v => shapeCast S320000 v shapeCasts_S320000x1_S320000) : (⟨S320000x1, .i32⟩ : BufTy).Contents (Elt F) → (⟨S320000, .i32⟩ : BufTy).Contents (Elt F)) (val V main_v24) :=
  ops_writes.reshape V 30 (x := main_v24) (y := main_v25) rfl (by decide +kernel) (by decide +kernel)

theorem val_main_v26 (V : Valuation τ sig (Elt F)) : val V main_v26 = (addi : (⟨S320000, .i32⟩ : BufTy).Contents (Elt F) → (⟨S320000, .i32⟩ : BufTy).Contents (Elt F) → (⟨S320000, .i32⟩ : BufTy).Contents (Elt F)) (val V main_v23) (val V main_v25) :=
  ops_writes.binary V 31 (a := main_v23) (b := main_v25) (y := main_v26) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_call0_v0 (V : Valuation τ sig (Elt F)) : val V main_call0_v0 = ((fun v => shapeCast S320000x1 v shapeCasts_S320000_S320000x1) : (⟨S320000, .i32⟩ : BufTy).Contents (Elt F) → (⟨S320000x1, .i32⟩ : BufTy).Contents (Elt F)) (val V main_v26) :=
  ops_writes.reshape V 32 (x := main_v26) (y := main_call0_v0) rfl (by decide +kernel) (by decide +kernel)

theorem val_main_call0_v1 (V : Valuation τ sig (Elt F)) : val V main_call0_v1 = (((transpose S1x320000 [1, 0] · transposes_S320000x1_S1x320000_1_0)) : (⟨S320000x1, .i32⟩ : BufTy).Contents (Elt F) → (⟨S1x320000, .i32⟩ : BufTy).Contents (Elt F)) (val V main_call0_v0) :=
  ops_writes.tunary V 33 (x := main_call0_v0) (y := main_call0_v1) (((transpose S1x320000 [1, 0] · transposes_S320000x1_S1x320000_1_0)) : (⟨S320000x1, .i32⟩ : BufTy).Contents (Elt F) → (⟨S1x320000, .i32⟩ : BufTy).Contents (Elt F)) rfl (by decide +kernel) (by decide +kernel)

theorem val_main_call0_v2 (V : Valuation τ sig (Elt F)) : val V main_call0_v2 = (((Host.reverse [0])) : (⟨S1x320000, .i32⟩ : BufTy).Contents (Elt F) → (⟨S1x320000, .i32⟩ : BufTy).Contents (Elt F)) (val V main_call0_v1) :=
  ops_writes.tunary V 34 (x := main_call0_v1) (y := main_call0_v2) (((Host.reverse [0])) : (⟨S1x320000, .i32⟩ : BufTy).Contents (Elt F) → (⟨S1x320000, .i32⟩ : BufTy).Contents (Elt F)) rfl (by decide +kernel) (by decide +kernel)

theorem val_main_call0_call0_v0 (V : Valuation τ sig (Elt F)) : val V main_call0_call0_v0 = (((extractStridedSlice S1x320000 ![0, 0] · slices_S1x320000_S1x320000_0_0)) : (⟨S1x320000, .i32⟩ : BufTy).Contents (Elt F) → (⟨S1x320000, .i32⟩ : BufTy).Contents (Elt F)) (val V main_call0_v2) :=
  ops_writes.tunary V 35 (x := main_call0_v2) (y := main_call0_call0_v0) (((extractStridedSlice S1x320000 ![0, 0] · slices_S1x320000_S1x320000_0_0)) : (⟨S1x320000, .i32⟩ : BufTy).Contents (Elt F) → (⟨S1x320000, .i32⟩ : BufTy).Contents (Elt F)) rfl (by decide +kernel) (by decide +kernel)

theorem val_main_call0_call0_v1 (V : Valuation τ sig (Elt F)) : val V main_call0_call0_v1 = ((fun v => shapeCast S320000 v shapeCasts_S1x320000_S320000) : (⟨S1x320000, .i32⟩ : BufTy).Contents (Elt F) → (⟨S320000, .i32⟩ : BufTy).Contents (Elt F)) (val V main_call0_call0_v0) :=
  ops_writes.reshape V 36 (x := main_call0_call0_v0) (y := main_call0_call0_v1) rfl (by decide +kernel) (by decide +kernel)

theorem val_main_call0_call0_v2 (V : Valuation τ sig (Elt F)) : val V main_call0_call0_v2 = ((iotaInDim S320000 32 0) : (⟨S320000, .i32⟩ : BufTy).Contents (Elt F)) :=
  ops_writes.tnullary V 37 (y := main_call0_call0_v2) ((iotaInDim S320000 32 0) : (⟨S320000, .i32⟩ : BufTy).Contents (Elt F)) rfl (by decide +kernel)

theorem val_main_v27_2 (V : Valuation τ sig (Elt F)) : val V main_v27_2 = (((fun x y => (Host.sort2 S320000 0 comparator_i32_i32_d0 x y).2)) : (⟨S320000, .i32⟩ : BufTy).Contents (Elt F) → (⟨S320000, .i32⟩ : BufTy).Contents (Elt F) → (⟨S320000, .i32⟩ : BufTy).Contents (Elt F)) (val V main_call0_call0_v1) (val V main_call0_call0_v2) :=
  ops_writes.tbinary V 39 (a := main_call0_call0_v1) (b := main_call0_call0_v2) (y := main_v27_2) (((fun x y => (Host.sort2 S320000 0 comparator_i32_i32_d0 x y).2)) : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_call0_c (V : Valuation τ sig (Elt F)) : val V main_call0_c = ((constantI S_ 32 0#32) : (⟨S_, .i32⟩ : BufTy).Contents (Elt F)) :=
  ops_writes.tnullary V 40 (y := main_call0_c) ((constantI S_ 32 0#32) : (⟨S_, .i32⟩ : BufTy).Contents (Elt F)) rfl (by decide +kernel)

theorem val_main_call0_v4 (V : Valuation τ sig (Elt F)) : val V main_call0_v4 = (((broadcastInDim S320000 ![] bcast_S_S320000)) : (⟨S_, .i32⟩ : BufTy).Contents (Elt F) → (⟨S320000, .i32⟩ : BufTy).Contents (Elt F)) (val V main_call0_c) :=
  ops_writes.tunary V 41 (x := main_call0_c) (y := main_call0_v4) (((broadcastInDim S320000 ![] bcast_S_S320000)) : (⟨S_, .i32⟩ : BufTy).Contents (Elt F) → (⟨S320000, .i32⟩ : BufTy).Contents (Elt F)) rfl (by decide +kernel) (by decide +kernel)

theorem val_main_call0_v5 (V : Valuation τ sig (Elt F)) : val V main_call0_v5 = (((cmpi .slt)) : (⟨S320000, .i32⟩ : BufTy).Contents (Elt F) → (⟨S320000, .i32⟩ : BufTy).Contents (Elt F) → (⟨S320000, .i1⟩ : BufTy).Contents (Elt F)) (val V main_v27_2) (val V main_call0_v4) :=
  ops_writes.tbinary V 42 (a := main_v27_2) (b := main_call0_v4) (y := main_call0_v5) (((cmpi .slt)) : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem val_main_call0_c_0 (V : Valuation τ sig (Elt F)) : val V main_call0_c_0 = ((constantI S_ 32 320000#32) : (⟨S_, .i32⟩ : BufTy).Contents (Elt F)) :=
  ops_writes.tnullary V 43 (y := main_call0_c_0) ((constantI S_ 32 320000#32) : (⟨S_, .i32⟩ : BufTy).Contents (Elt F)) rfl (by decide +kernel)

theorem val_main_call0_v6 (V : Valuation τ sig (Elt F)) : val V main_call0_v6 = (((broadcastInDim S320000 ![] bcast_S_S320000)) : (⟨S_, .i32⟩ : BufTy).Contents (Elt F) → (⟨S320000, .i32⟩ : BufTy).Contents (Elt F)) (val V main_call0_c_0) :=
  ops_writes.tunary V 44 (x := main_call0_c_0) (y := main_call0_v6) (((broadcastInDim S320000 ![] bcast_S_S320000)) : (⟨S_, .i32⟩ : BufTy).Contents (Elt F) → (⟨S320000, .i32⟩ : BufTy).Contents (Elt F)) rfl (by decide +kernel) (by decide +kernel)

theorem val_main_call0_v7 (V : Valuation τ sig (Elt F)) : val V main_call0_v7 = ((addi) : (⟨S320000, .i32⟩ : BufTy).Contents (Elt F) → (⟨S320000, .i32⟩ : BufTy).Contents (Elt F) → (⟨S320000, .i32⟩ : BufTy).Contents (Elt F)) (val V main_v27_2) (val V main_call0_v6) :=
  ops_writes.tbinary V 45 (a := main_v27_2) (b := main_call0_v6) (y := main_call0_v7) ((addi) : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_call0_v8 (V : Valuation τ sig (Elt F)) : val V main_call0_v8 = ((select) : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (val V main_call0_v5) (val V main_call0_v7) (val V main_v27_2) :=
  ops_writes.tternary V 46 (c := main_call0_v5) (a := main_call0_v7) (b := main_v27_2) (y := main_call0_v8) ((select) : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem val_main_call0_v9 (V : Valuation τ sig (Elt F)) : val V main_call0_v9 = (((broadcastInDim S320000x1 ![0] bcast_S320000_S320000x1_0)) : (⟨S320000, .i32⟩ : BufTy).Contents (Elt F) → (⟨S320000x1, .i32⟩ : BufTy).Contents (Elt F)) (val V main_call0_v8) :=
  ops_writes.tunary V 47 (x := main_call0_v8) (y := main_call0_v9) (((broadcastInDim S320000x1 ![0] bcast_S320000_S320000x1_0)) : (⟨S320000, .i32⟩ : BufTy).Contents (Elt F) → (⟨S320000x1, .i32⟩ : BufTy).Contents (Elt F)) rfl (by decide +kernel) (by decide +kernel)

theorem val_main_v27_0 (V : Valuation τ sig (Elt F)) : val V main_v27_0 = (((fun x i => Host.gather gather_S320000_S320000x1_S320000_n_0_n_n_0_1_1 x i)) : (⟨S320000, .i32⟩ : BufTy).Contents (Elt F) → (⟨S320000x1, .i32⟩ : BufTy).Contents (Elt F) → (⟨S320000, .i32⟩ : BufTy).Contents (Elt F)) (val V main_v26) (val V main_call0_v9) :=
  ops_writes.tbinary V 48 (a := main_v26) (b := main_call0_v9) (y := main_v27_0) (((fun x i => Host.gather gather_S320000_S320000x1_S320000_n_0_n_n_0_1_1 x i)) : (⟨S320000, .i32⟩ : BufTy).Contents (Elt F) → (⟨S320000x1, .i32⟩ : BufTy).Contents (Elt F) → (⟨S320000, .i32⟩ : BufTy).Contents (Elt F)) rfl (by decide +kernel) (by decide +kernel) (by decide +kernel)

theorem val_main_call0_c_1 (V : Valuation τ sig (Elt F)) : val V main_call0_c_1 = ((constantI S_ 1 1#1) : (⟨S_, .i1⟩ : BufTy).Contents (Elt F)) :=
  ops_writes.tnullary V 49 (y := main_call0_c_1) ((constantI S_ 1 1#1) : (⟨S_, .i1⟩ : BufTy).Contents (Elt F)) rfl (by decide +kernel)

theorem val_main_call0_v11 (V : Valuation τ sig (Elt F)) : val V main_call0_v11 = (((broadcastInDim S320000 ![] bcast_S_S320000)) : (⟨S_, .i1⟩ : BufTy).Contents (Elt F) → (⟨S320000, .i1⟩ : BufTy).Contents (Elt F)) (val V main_call0_c_1) :=
  ops_writes.tunary V 50 (x := main_call0_c_1) (y := main_call0_v11) (((broadcastInDim S320000 ![] bcast_S_S320000)) : (⟨S_, .i1⟩ : BufTy).Contents (Elt F) → (⟨S320000, .i1⟩ : BufTy).Contents (Elt F)) rfl (by decide +kernel) (by decide +kernel)

theorem val_main_call0_v12 (V : Valuation τ sig (Elt F)) : val V main_call0_v12 = (((extractStridedSlice S319999 ![1] · slices_S320000_S319999_1)) : (⟨S320000, .i32⟩ : BufTy).Contents (Elt F) → (⟨S319999, .i32⟩ : BufTy).Contents (Elt F)) (val V main_v27_0) :=
  ops_writes.tunary V 51 (x := main_v27_0) (y := main_call0_v12) (((extractStridedSlice S319999 ![1] · slices_S320000_S319999_1)) : (⟨S320000, .i32⟩ : BufTy).Contents (Elt F) → (⟨S319999, .i32⟩ : BufTy).Contents (Elt F)) rfl (by decide +kernel) (by decide +kernel)

theorem val_main_call0_v13 (V : Valuation τ sig (Elt F)) : val V main_call0_v13 = (((extractStridedSlice S319999 ![0] · slices_S320000_S319999_0)) : (⟨S320000, .i32⟩ : BufTy).Contents (Elt F) → (⟨S319999, .i32⟩ : BufTy).Contents (Elt F)) (val V main_v27_0) :=
  ops_writes.tunary V 52 (x := main_v27_0) (y := main_call0_v13) (((extractStridedSlice S319999 ![0] · slices_S320000_S319999_0)) : (⟨S320000, .i32⟩ : BufTy).Contents (Elt F) → (⟨S319999, .i32⟩ : BufTy).Contents (Elt F)) rfl (by decide +kernel) (by decide +kernel)

theorem val_main_call0_v14 (V : Valuation τ sig (Elt F)) : val V main_call0_v14 = (((cmpi .ne)) : (⟨S319999, .i32⟩ : BufTy).Contents (Elt F) → (⟨S319999, .i32⟩ : BufTy).Contents (Elt F) → (⟨S319999, .i1⟩ : BufTy).Contents (Elt F)) (val V main_call0_v12) (val V main_call0_v13) :=
  ops_writes.tbinary V 53 (a := main_call0_v12) (b := main_call0_v13) (y := main_call0_v14) (((cmpi .ne)) : (⟨S319999, .i32⟩ : BufTy).Contents (Elt F) → (⟨S319999, .i32⟩ : BufTy).Contents (Elt F) → (⟨S319999, .i1⟩ : BufTy).Contents (Elt F)) rfl (by decide +kernel) (by decide +kernel) (by decide +kernel)

theorem val_main_call0_c_2 (V : Valuation τ sig (Elt F)) : val V main_call0_c_2 = ((constantI S_ 1 0#1) : (⟨S_, .i1⟩ : BufTy).Contents (Elt F)) :=
  ops_writes.tnullary V 54 (y := main_call0_c_2) ((constantI S_ 1 0#1) : (⟨S_, .i1⟩ : BufTy).Contents (Elt F)) rfl (by decide +kernel)

theorem val_main_call0_v15 (V : Valuation τ sig (Elt F)) : val V main_call0_v15 = (((fun x v => Host.reduce IntOp.ori x v reducesTo_S319999_S319999_d h_S_)) : (⟨S319999, .i1⟩ : BufTy).Contents (Elt F) → (⟨S_, .i1⟩ : BufTy).Contents (Elt F) → (⟨S319999, .i1⟩ : BufTy).Contents (Elt F)) (val V main_call0_v14) (val V main_call0_c_2) :=
  ops_writes.tbinary V 55 (a := main_call0_v14) (b := main_call0_c_2) (y := main_call0_v15) (((fun x v => Host.reduce IntOp.ori x v reducesTo_S319999_S319999_d h_S_)) : (⟨S319999, .i1⟩ : BufTy).Contents (Elt F) → (⟨S_, .i1⟩ : BufTy).Contents (Elt F) → (⟨S319999, .i1⟩ : BufTy).Contents (Elt F)) rfl (by decide +kernel) (by decide +kernel) (by decide +kernel)

theorem val_main_call0_c_3 (V : Valuation τ sig (Elt F)) : val V main_call0_c_3 = ((constantI S_ 32 1#32) : (⟨S_, .i32⟩ : BufTy).Contents (Elt F)) :=
  ops_writes.tnullary V 56 (y := main_call0_c_3) ((constantI S_ 32 1#32) : (⟨S_, .i32⟩ : BufTy).Contents (Elt F)) rfl (by decide +kernel)

theorem val_main_call0_v16 (V : Valuation τ sig (Elt F)) : val V main_call0_v16 = (((broadcastInDim S1 ![] bcast_S_S1)) : (⟨S_, .i32⟩ : BufTy).Contents (Elt F) → (⟨S1, .i32⟩ : BufTy).Contents (Elt F)) (val V main_call0_c_3) :=
  ops_writes.tunary V 57 (x := main_call0_c_3) (y := main_call0_v16) (((broadcastInDim S1 ![] bcast_S_S1)) : (⟨S_, .i32⟩ : BufTy).Contents (Elt F) → (⟨S1, .i32⟩ : BufTy).Contents (Elt F)) rfl (by decide +kernel) (by decide +kernel)

theorem val_main_v27_1 (V : Valuation τ sig (Elt F)) : val V main_v27_1 = (((fun x i u => Host.scatter scatter_S320000_S1_S319999_0_n_0_0 (fun _ b => b) x i u)) : (⟨S320000, .i1⟩ : BufTy).Contents (Elt F) → (⟨S1, .i32⟩ : BufTy).Contents (Elt F) → (⟨S319999, .i1⟩ : BufTy).Contents (Elt F) → (⟨S320000, .i1⟩ : BufTy).Contents (Elt F)) (val V main_call0_v11) (val V main_call0_v16) (val V main_call0_v15) :=
  ops_writes.tternary V 58 (c := main_call0_v11) (a := main_call0_v16) (b := main_call0_v15) (y := main_v27_1) (((fun x i u => Host.scatter scatter_S320000_S1_S319999_0_n_0_0 (fun _ b => b) x i u)) : (⟨S320000, .i1⟩ : BufTy).Contents (Elt F) → (⟨S1, .i32⟩ : BufTy).Contents (Elt F) → (⟨S319999, .i1⟩ : BufTy).Contents (Elt F) → (⟨S320000, .i1⟩ : BufTy).Contents (Elt F)) rfl (by decide +kernel) (by decide +kernel) (by decide +kernel) (by decide +kernel)

theorem val_main_call7_v0 (V : Valuation τ sig (Elt F)) : val V main_call7_v0 = (((extui 32 · natLt_1_32)) : (⟨S320000, .i1⟩ : BufTy).Contents (Elt F) → (⟨S320000, .i32⟩ : BufTy).Contents (Elt F)) (val V main_v27_1) :=
  ops_writes.tunary V 148 (x := main_v27_1) (y := main_call7_v0) (((extui 32 · natLt_1_32)) : (⟨S320000, .i1⟩ : BufTy).Contents (Elt F) → (⟨S320000, .i32⟩ : BufTy).Contents (Elt F)) rfl (by decide +kernel) (by decide +kernel)

theorem val_main_call7_call0_c (V : Valuation τ sig (Elt F)) : val V main_call7_call0_c = ((constantI S_ 32 0#32) : (⟨S_, .i32⟩ : BufTy).Contents (Elt F)) :=
  ops_writes.tnullary V 149 (y := main_call7_call0_c) ((constantI S_ 32 0#32) : (⟨S_, .i32⟩ : BufTy).Contents (Elt F)) rfl (by decide +kernel)

theorem val_main_call7_call0_v0 (V : Valuation τ sig (Elt F)) : val V main_call7_call0_v0 = (((broadcastInDim S_ ![] bcast_S_S_)) : (⟨S_, .i32⟩ : BufTy).Contents (Elt F) → (⟨S_, .i32⟩ : BufTy).Contents (Elt F)) (val V main_call7_call0_c) :=
  ops_writes.tunary V 150 (x := main_call7_call0_c) (y := main_call7_call0_v0) (((broadcastInDim S_ ![] bcast_S_S_)) : (⟨S_, .i32⟩ : BufTy).Contents (Elt F) → (⟨S_, .i32⟩ : BufTy).Contents (Elt F)) rfl (by decide +kernel) (by decide +kernel)

theorem val_main_v61 (V : Valuation τ sig (Elt F)) : val V main_v61 = (((fun x v => Host.reduceWindow IntOp.addi ![320000] ![1] ![319999] ![0] x v reduceWindows_S320000_S320000_w320000s1p319999_0 h_S_)) : (⟨S320000, .i32⟩ : BufTy).Contents (Elt F) → (⟨S_, .i32⟩ : BufTy).Contents (Elt F) → (⟨S320000, .i32⟩ : BufTy).Contents (Elt F)) (val V main_call7_v0) (val V main_call7_call0_v0) :=
  ops_writes.tbinary V 151 (a := main_call7_v0) (b := main_call7_call0_v0) (y := main_v61) (((fun x v => Host.reduceWindow IntOp.addi ![320000] ![1] ![319999] ![0] x v reduceWindows_S320000_S320000_w320000s1p319999_0 h_S_)) : (⟨S320000, .i32⟩ : BufTy).Contents (Elt F) → (⟨S_, .i32⟩ : BufTy).Contents (Elt F) → (⟨S320000, .i32⟩ : BufTy).Contents (Elt F)) rfl (by decide +kernel) (by decide +kernel) (by decide +kernel)

theorem val_main_c_16 (V : Valuation τ sig (Elt F)) : val V main_c_16 = (constantI S_ 32 1#32) :=
  ops_writes.nullary V 152 (y := main_c_16) (constantI S_ 32 1#32) rfl (by decide +kernel)

theorem val_main_v62 (V : Valuation τ sig (Elt F)) : val V main_v62 = (broadcastInDim S320000 ![] bcast_S_S320000 : (⟨S_, .i32⟩ : BufTy).Contents (Elt F) → (⟨S320000, .i32⟩ : BufTy).Contents (Elt F)) (val V main_c_16) :=
  ops_writes.unary V 153 (x := main_c_16) (y := main_v62) (broadcastInDim S320000 ![] bcast_S_S320000 : (⟨S_, .i32⟩ : BufTy).Contents (Elt F) → (⟨S320000, .i32⟩ : BufTy).Contents (Elt F)) rfl (by decide +kernel) (by decide +kernel)

theorem val_main_v63 (V : Valuation τ sig (Elt F)) : val V main_v63 = (subi : (⟨S320000, .i32⟩ : BufTy).Contents (Elt F) → (⟨S320000, .i32⟩ : BufTy).Contents (Elt F) → (⟨S320000, .i32⟩ : BufTy).Contents (Elt F)) (val V main_v61) (val V main_v62) :=
  ops_writes.binary V 154 (a := main_v61) (b := main_v62) (y := main_v63) (subi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_c_17 (V : Valuation τ sig (Elt F)) : val V main_c_17 = (constantI S_ 32 0#32) :=
  ops_writes.nullary V 155 (y := main_c_17) (constantI S_ 32 0#32) rfl (by decide +kernel)

theorem val_main_v64 (V : Valuation τ sig (Elt F)) : val V main_v64 = (broadcastInDim S320000 ![] bcast_S_S320000 : (⟨S_, .i32⟩ : BufTy).Contents (Elt F) → (⟨S320000, .i32⟩ : BufTy).Contents (Elt F)) (val V main_c_17) :=
  ops_writes.unary V 156 (x := main_c_17) (y := main_v64) (broadcastInDim S320000 ![] bcast_S_S320000 : (⟨S_, .i32⟩ : BufTy).Contents (Elt F) → (⟨S320000, .i32⟩ : BufTy).Contents (Elt F)) rfl (by decide +kernel) (by decide +kernel)

theorem val_main_c_18 (V : Valuation τ sig (Elt F)) : val V main_c_18 = (constantI S_ 32 0#32) :=
  ops_writes.nullary V 157 (y := main_c_18) (constantI S_ 32 0#32) rfl (by decide +kernel)

theorem val_main_v65 (V : Valuation τ sig (Elt F)) : val V main_v65 = (broadcastInDim S320000 ![] bcast_S_S320000 : (⟨S_, .i32⟩ : BufTy).Contents (Elt F) → (⟨S320000, .i32⟩ : BufTy).Contents (Elt F)) (val V main_c_18) :=
  ops_writes.unary V 158 (x := main_c_18) (y := main_v65) (broadcastInDim S320000 ![] bcast_S_S320000 : (⟨S_, .i32⟩ : BufTy).Contents (Elt F) → (⟨S320000, .i32⟩ : BufTy).Contents (Elt F)) rfl (by decide +kernel) (by decide +kernel)

theorem val_main_v66 (V : Valuation τ sig (Elt F)) : val V main_v66 = (cmpi .slt : (⟨S320000, .i32⟩ : BufTy).Contents (Elt F) → (⟨S320000, .i32⟩ : BufTy).Contents (Elt F) → (⟨S320000, .i1⟩ : BufTy).Contents (Elt F)) (val V main_v27_2) (val V main_v65) :=
  ops_writes.binary V 159 (a := main_v27_2) (b := main_v65) (y := main_v66) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem val_main_c_19 (V : Valuation τ sig (Elt F)) : val V main_c_19 = (constantI S_ 32 320000#32) :=
  ops_writes.nullary V 160 (y := main_c_19) (constantI S_ 32 320000#32) rfl (by decide +kernel)

theorem val_main_v67 (V : Valuation τ sig (Elt F)) : val V main_v67 = (broadcastInDim S320000 ![] bcast_S_S320000 : (⟨S_, .i32⟩ : BufTy).Contents (Elt F) → (⟨S320000, .i32⟩ : BufTy).Contents (Elt F)) (val V main_c_19) :=
  ops_writes.unary V 161 (x := main_c_19) (y := main_v67) (broadcastInDim S320000 ![] bcast_S_S320000 : (⟨S_, .i32⟩ : BufTy).Contents (Elt F) → (⟨S320000, .i32⟩ : BufTy).Contents (Elt F)) rfl (by decide +kernel) (by decide +kernel)

theorem val_main_v68 (V : Valuation τ sig (Elt F)) : val V main_v68 = (addi : (⟨S320000, .i32⟩ : BufTy).Contents (Elt F) → (⟨S320000, .i32⟩ : BufTy).Contents (Elt F) → (⟨S320000, .i32⟩ : BufTy).Contents (Elt F)) (val V main_v27_2) (val V main_v67) :=
  ops_writes.binary V 162 (a := main_v27_2) (b := main_v67) (y := main_v68) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v69 (V : Valuation τ sig (Elt F)) : val V main_v69 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (val V main_v66) (val V main_v68) (val V main_v27_2) :=
  ops_writes.ternary V 163 (c := main_v66) (a := main_v68) (b := main_v27_2) (y := main_v69) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem val_main_v70 (V : Valuation τ sig (Elt F)) : val V main_v70 = (broadcastInDim S320000x1 ![0] bcast_S320000_S320000x1_0 : (⟨S320000, .i32⟩ : BufTy).Contents (Elt F) → (⟨S320000x1, .i32⟩ : BufTy).Contents (Elt F)) (val V main_v69) :=
  ops_writes.unary V 164 (x := main_v69) (y := main_v70) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem val_main_v71 (V : Valuation τ sig (Elt F)) : val V main_v71 = ((fun x i u => Host.scatter scatter_S320000_S320000x1_S320000_n_0_0_1 (fun _ b => b) x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) (val V main_v64) (val V main_v70) (val V main_v63) :=
  ops_writes.ternary V 165 (c := main_v64) (a := main_v70) (b := main_v63) (y := main_v71) ((fun x i u => Host.scatter scatter_S320000_S320000x1_S320000_n_0_0_1 (fun _ b => b) x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem val_main_c_20 (V : Valuation τ sig (Elt F)) : val V main_c_20 = (constantI S_ 32 0#32) :=
  ops_writes.nullary V 166 (y := main_c_20) (constantI S_ 32 0#32) rfl (by decide +kernel)

theorem val_main_v72 (V : Valuation τ sig (Elt F)) : val V main_v72 = (broadcastInDim S320000 ![] bcast_S_S320000 : (⟨S_, .i32⟩ : BufTy).Contents (Elt F) → (⟨S320000, .i32⟩ : BufTy).Contents (Elt F)) (val V main_c_20) :=
  ops_writes.unary V 167 (x := main_c_20) (y := main_v72) (broadcastInDim S320000 ![] bcast_S_S320000 : (⟨S_, .i32⟩ : BufTy).Contents (Elt F) → (⟨S320000, .i32⟩ : BufTy).Contents (Elt F)) rfl (by decide +kernel) (by decide +kernel)

theorem val_main_c_21 (V : Valuation τ sig (Elt F)) : val V main_c_21 = (constantI S_ 32 0#32) :=
  ops_writes.nullary V 168 (y := main_c_21) (constantI S_ 32 0#32) rfl (by decide +kernel)

theorem val_main_call8_v0 (V : Valuation τ sig (Elt F)) : val V main_call8_v0 = ((id) : (⟨S_, .i32⟩ : BufTy).Contents (Elt F) → (⟨S_, .i32⟩ : BufTy).Contents (Elt F)) (val V main_c_21) :=
  ops_writes.tunary V 169 (x := main_c_21) (y := main_call8_v0) ((id) : (⟨S_, .i32⟩ : BufTy).Contents (Elt F) → (⟨S_, .i32⟩ : BufTy).Contents (Elt F)) rfl (by decide +kernel) (by decide +kernel)

theorem val_main_call8_v1 (V : Valuation τ sig (Elt F)) : val V main_call8_v1 = (((broadcastInDim S320000 ![] bcast_S_S320000)) : (⟨S_, .i32⟩ : BufTy).Contents (Elt F) → (⟨S320000, .i32⟩ : BufTy).Contents (Elt F)) (val V main_call8_v0) :=
  ops_writes.tunary V 170 (x := main_call8_v0) (y := main_call8_v1) (((broadcastInDim S320000 ![] bcast_S_S320000)) : (⟨S_, .i32⟩ : BufTy).Contents (Elt F) → (⟨S320000, .i32⟩ : BufTy).Contents (Elt F)) rfl (by decide +kernel) (by decide +kernel)

theorem val_main_v73 (V : Valuation τ sig (Elt F)) : val V main_v73 = ((maxsi) : (⟨S320000, .i32⟩ : BufTy).Contents (Elt F) → (⟨S320000, .i32⟩ : BufTy).Contents (Elt F) → (⟨S320000, .i32⟩ : BufTy).Contents (Elt F)) (val V main_call8_v1) (val V main_v71) :=
  ops_writes.tbinary V 171 (a := main_call8_v1) (b := main_v71) (y := main_v73) ((maxsi) : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_c_22 (V : Valuation τ sig (Elt F)) : val V main_c_22 = (constantI S_ 32 0#32) :=
  ops_writes.nullary V 172 (y := main_c_22) (constantI S_ 32 0#32) rfl (by decide +kernel)

theorem val_main_v74 (V : Valuation τ sig (Elt F)) : val V main_v74 = (broadcastInDim S320000 ![] bcast_S_S320000 : (⟨S_, .i32⟩ : BufTy).Contents (Elt F) → (⟨S320000, .i32⟩ : BufTy).Contents (Elt F)) (val V main_c_22) :=
  ops_writes.unary V 173 (x := main_c_22) (y := main_v74) (broadcastInDim S320000 ![] bcast_S_S320000 : (⟨S_, .i32⟩ : BufTy).Contents (Elt F) → (⟨S320000, .i32⟩ : BufTy).Contents (Elt F)) rfl (by decide +kernel) (by decide +kernel)

theorem val_main_v75 (V : Valuation τ sig (Elt F)) : val V main_v75 = (cmpi .slt : (⟨S320000, .i32⟩ : BufTy).Contents (Elt F) → (⟨S320000, .i32⟩ : BufTy).Contents (Elt F) → (⟨S320000, .i1⟩ : BufTy).Contents (Elt F)) (val V main_v73) (val V main_v74) :=
  ops_writes.binary V 174 (a := main_v73) (b := main_v74) (y := main_v75) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem val_main_c_23 (V : Valuation τ sig (Elt F)) : val V main_c_23 = (constantI S_ 32 320000#32) :=
  ops_writes.nullary V 175 (y := main_c_23) (constantI S_ 32 320000#32) rfl (by decide +kernel)

theorem val_main_v76 (V : Valuation τ sig (Elt F)) : val V main_v76 = (broadcastInDim S320000 ![] bcast_S_S320000 : (⟨S_, .i32⟩ : BufTy).Contents (Elt F) → (⟨S320000, .i32⟩ : BufTy).Contents (Elt F)) (val V main_c_23) :=
  ops_writes.unary V 176 (x := main_c_23) (y := main_v76) (broadcastInDim S320000 ![] bcast_S_S320000 : (⟨S_, .i32⟩ : BufTy).Contents (Elt F) → (⟨S320000, .i32⟩ : BufTy).Contents (Elt F)) rfl (by decide +kernel) (by decide +kernel)

theorem val_main_v77 (V : Valuation τ sig (Elt F)) : val V main_v77 = (addi : (⟨S320000, .i32⟩ : BufTy).Contents (Elt F) → (⟨S320000, .i32⟩ : BufTy).Contents (Elt F) → (⟨S320000, .i32⟩ : BufTy).Contents (Elt F)) (val V main_v73) (val V main_v76) :=
  ops_writes.binary V 177 (a := main_v73) (b := main_v76) (y := main_v77) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v78 (V : Valuation τ sig (Elt F)) : val V main_v78 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (val V main_v75) (val V main_v77) (val V main_v73) :=
  ops_writes.ternary V 178 (c := main_v75) (a := main_v77) (b := main_v73) (y := main_v78) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem val_main_v79 (V : Valuation τ sig (Elt F)) : val V main_v79 = (broadcastInDim S320000x1 ![0] bcast_S320000_S320000x1_0 : (⟨S320000, .i32⟩ : BufTy).Contents (Elt F) → (⟨S320000x1, .i32⟩ : BufTy).Contents (Elt F)) (val V main_v78) :=
  ops_writes.unary V 179 (x := main_v78) (y := main_v79) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem val_main_c_24 (V : Valuation τ sig (Elt F)) : val V main_c_24 = (constantI S_ 32 1#32) :=
  ops_writes.nullary V 180 (y := main_c_24) (constantI S_ 32 1#32) rfl (by decide +kernel)

theorem val_main_v80 (V : Valuation τ sig (Elt F)) : val V main_v80 = (broadcastInDim S320000 ![] bcast_S_S320000 : (⟨S_, .i32⟩ : BufTy).Contents (Elt F) → (⟨S320000, .i32⟩ : BufTy).Contents (Elt F)) (val V main_c_24) :=
  ops_writes.unary V 181 (x := main_c_24) (y := main_v80) (broadcastInDim S320000 ![] bcast_S_S320000 : (⟨S_, .i32⟩ : BufTy).Contents (Elt F) → (⟨S320000, .i32⟩ : BufTy).Contents (Elt F)) rfl (by decide +kernel) (by decide +kernel)

theorem val_main_v81 (V : Valuation τ sig (Elt F)) : val V main_v81 = ((fun x i u => Host.scatter scatter_S320000_S320000x1_S320000_n_0_0_1 IntOp.addi x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) (val V main_v72) (val V main_v79) (val V main_v80) :=
  ops_writes.ternary V 182 (c := main_v72) (a := main_v79) (b := main_v80) (y := main_v81) ((fun x i u => Host.scatter scatter_S320000_S320000x1_S320000_n_0_0_1 IntOp.addi x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem val_main_c_25 (V : Valuation τ sig (Elt F)) : val V main_c_25 = (constantI S_ 32 1#32) :=
  ops_writes.nullary V 183 (y := main_c_25) (constantI S_ 32 1#32) rfl (by decide +kernel)

theorem val_main_v82 (V : Valuation τ sig (Elt F)) : val V main_v82 = (broadcastInDim S320000 ![] bcast_S_S320000 : (⟨S_, .i32⟩ : BufTy).Contents (Elt F) → (⟨S320000, .i32⟩ : BufTy).Contents (Elt F)) (val V main_c_25) :=
  ops_writes.unary V 184 (x := main_c_25) (y := main_v82) (broadcastInDim S320000 ![] bcast_S_S320000 : (⟨S_, .i32⟩ : BufTy).Contents (Elt F) → (⟨S320000, .i32⟩ : BufTy).Contents (Elt F)) rfl (by decide +kernel) (by decide +kernel)

theorem val_main_v83 (V : Valuation τ sig (Elt F)) : val V main_v83 = (maxsi : (⟨S320000, .i32⟩ : BufTy).Contents (Elt F) → (⟨S320000, .i32⟩ : BufTy).Contents (Elt F) → (⟨S320000, .i32⟩ : BufTy).Contents (Elt F)) (val V main_v81) (val V main_v82) :=
  ops_writes.binary V 185 (a := main_v81) (b := main_v82) (y := main_v83) (maxsi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v84 (V : Valuation τ sig (Elt F)) : val V main_v84 = (sitofp .f32 : (⟨S320000, .i32⟩ : BufTy).Contents (Elt F) → (⟨S320000, .f32⟩ : BufTy).Contents (Elt F)) (val V main_v83) :=
  ops_writes.unary V 186 (x := main_v83) (y := main_v84) (sitofp .f32 : (⟨S320000, .i32⟩ : BufTy).Contents (Elt F) → (⟨S320000, .f32⟩ : BufTy).Contents (Elt F)) rfl (by decide +kernel) (by decide +kernel)

theorem val_main_v85 (V : Valuation τ sig (Elt F)) : val V main_v85 = (sitofp .f32 : (⟨S320000x4, .i32⟩ : BufTy).Contents (Elt F) → (⟨S320000x4, .f32⟩ : BufTy).Contents (Elt F)) (val V main_v7) :=
  ops_writes.unary V 187 (x := main_v7) (y := main_v85) (sitofp .f32 : (⟨S320000x4, .i32⟩ : BufTy).Contents (Elt F) → (⟨S320000x4, .f32⟩ : BufTy).Contents (Elt F)) rfl (by decide +kernel) (by decide +kernel)

theorem val_main_cst (V : Valuation τ sig (Elt F)) : val V main_cst = (constant S_ .f32 0x00000000#32) :=
  ops_writes.nullary V 188 (y := main_cst) (constant S_ .f32 0x00000000#32) rfl (by decide +kernel)

theorem val_main_v86 (V : Valuation τ sig (Elt F)) : val V main_v86 = (broadcastInDim S320000x4 ![] bcast_S_S320000x4 : (⟨S_, .f32⟩ : BufTy).Contents (Elt F) → (⟨S320000x4, .f32⟩ : BufTy).Contents (Elt F)) (val V main_cst) :=
  ops_writes.unary V 189 (x := main_cst) (y := main_v86) (broadcastInDim S320000x4 ![] bcast_S_S320000x4 : (⟨S_, .f32⟩ : BufTy).Contents (Elt F) → (⟨S320000x4, .f32⟩ : BufTy).Contents (Elt F)) rfl (by decide +kernel) (by decide +kernel)

theorem val_main_v87 (V : Valuation τ sig (Elt F)) : val V main_v87 = (broadcastInDim S320000x1 ![0] bcast_S320000_S320000x1_0 : (⟨S320000, .i32⟩ : BufTy).Contents (Elt F) → (⟨S320000x1, .i32⟩ : BufTy).Contents (Elt F)) (val V main_v71) :=
  ops_writes.unary V 190 (x := main_v71) (y := main_v87) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem val_main_v88 (V : Valuation τ sig (Elt F)) : val V main_v88 = ((fun x i u => Host.scatterAdd scatter_S320000x4_S320000x1_S320000x4_1_0_0_1 x i u) : (⟨S320000x4, .f32⟩ : BufTy).Contents (Elt F) → (⟨S320000x1, .i32⟩ : BufTy).Contents (Elt F) → (⟨S320000x4, .f32⟩ : BufTy).Contents (Elt F) → (⟨S320000x4, .f32⟩ : BufTy).Contents (Elt F)) (val V main_v86) (val V main_v87) (val V main_v85) :=
  ops_writes.ternary V 191 (c := main_v86) (a := main_v87) (b := main_v85) (y := main_v88) ((fun x i u => Host.scatterAdd scatter_S320000x4_S320000x1_S320000x4_1_0_0_1 x i u) : (⟨S320000x4, .f32⟩ : BufTy).Contents (Elt F) → (⟨S320000x1, .i32⟩ : BufTy).Contents (Elt F) → (⟨S320000x4, .f32⟩ : BufTy).Contents (Elt F) → (⟨S320000x4, .f32⟩ : BufTy).Contents (Elt F)) rfl (by decide +kernel) (by decide +kernel) (by decide +kernel) (by decide +kernel)

theorem val_main_v89 (V : Valuation τ sig (Elt F)) : val V main_v89 = (broadcastInDim S320000x1 ![0] bcast_S320000_S320000x1_0 : (⟨S320000, .f32⟩ : BufTy).Contents (Elt F) → (⟨S320000x1, .f32⟩ : BufTy).Contents (Elt F)) (val V main_v84) :=
  ops_writes.unary V 192 (x := main_v84) (y := main_v89) (broadcastInDim S320000x1 ![0] bcast_S320000_S320000x1_0 : (⟨S320000, .f32⟩ : BufTy).Contents (Elt F) → (⟨S320000x1, .f32⟩ : BufTy).Contents (Elt F)) rfl (by decide +kernel) (by decide +kernel)

theorem val_main_v90 (V : Valuation τ sig (Elt F)) : val V main_v90 = (broadcastInDim S320000x4 ![0, 1] bcast_S320000x1_S320000x4_0_1 : (⟨S320000x1, .f32⟩ : BufTy).Contents (Elt F) → (⟨S320000x4, .f32⟩ : BufTy).Contents (Elt F)) (val V main_v89) :=
  ops_writes.unary V 193 (x := main_v89) (y := main_v90) (broadcastInDim S320000x4 ![0, 1] bcast_S320000x1_S320000x4_0_1 : (⟨S320000x1, .f32⟩ : BufTy).Contents (Elt F) → (⟨S320000x4, .f32⟩ : BufTy).Contents (Elt F)) rfl (by decide +kernel) (by decide +kernel)

theorem val_main_v91 (V : Valuation τ sig (Elt F)) : val V main_v91 = (Host.divf : (⟨S320000x4, .f32⟩ : BufTy).Contents (Elt F) → (⟨S320000x4, .f32⟩ : BufTy).Contents (Elt F) → (⟨S320000x4, .f32⟩ : BufTy).Contents (Elt F)) (val V main_v88) (val V main_v90) :=
  ops_writes.binary V 194 (a := main_v88) (b := main_v90) (y := main_v91) (Host.divf : (⟨S320000x4, .f32⟩ : BufTy).Contents (Elt F) → (⟨S320000x4, .f32⟩ : BufTy).Contents (Elt F) → (⟨S320000x4, .f32⟩ : BufTy).Contents (Elt F)) rfl (by decide +kernel) (by decide +kernel) (by decide +kernel)

theorem val_main_v92 (V : Valuation τ sig (Elt F)) : val V main_v92 = (fptosi 32 : (⟨S320000x4, .f32⟩ : BufTy).Contents (Elt F) → (⟨S320000x4, .i32⟩ : BufTy).Contents (Elt F)) (val V main_v91) :=
  ops_writes.unary V 195 (x := main_v91) (y := main_v92) (fptosi 32 : (⟨S320000x4, .f32⟩ : BufTy).Contents (Elt F) → (⟨S320000x4, .i32⟩ : BufTy).Contents (Elt F)) rfl (by decide +kernel) (by decide +kernel)

theorem val_main_c_26 (V : Valuation τ sig (Elt F)) : val V main_c_26 = (constantI S_ 32 0#32) :=
  ops_writes.nullary V 196 (y := main_c_26) (constantI S_ 32 0#32) rfl (by decide +kernel)

theorem val_main_v93 (V : Valuation τ sig (Elt F)) : val V main_v93 = (broadcastInDim S320000 ![] bcast_S_S320000 : (⟨S_, .i32⟩ : BufTy).Contents (Elt F) → (⟨S320000, .i32⟩ : BufTy).Contents (Elt F)) (val V main_c_26) :=
  ops_writes.unary V 197 (x := main_c_26) (y := main_v93) (broadcastInDim S320000 ![] bcast_S_S320000 : (⟨S_, .i32⟩ : BufTy).Contents (Elt F) → (⟨S320000, .i32⟩ : BufTy).Contents (Elt F)) rfl (by decide +kernel) (by decide +kernel)

theorem val_main_v94 (V : Valuation τ sig (Elt F)) : val V main_v94 = (cmpi .slt : (⟨S320000, .i32⟩ : BufTy).Contents (Elt F) → (⟨S320000, .i32⟩ : BufTy).Contents (Elt F) → (⟨S320000, .i1⟩ : BufTy).Contents (Elt F)) (val V main_v71) (val V main_v93) :=
  ops_writes.binary V 198 (a := main_v71) (b := main_v93) (y := main_v94) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem val_main_c_27 (V : Valuation τ sig (Elt F)) : val V main_c_27 = (constantI S_ 32 320000#32) :=
  ops_writes.nullary V 199 (y := main_c_27) (constantI S_ 32 320000#32) rfl (by decide +kernel)

theorem val_main_v95 (V : Valuation τ sig (Elt F)) : val V main_v95 = (broadcastInDim S320000 ![] bcast_S_S320000 : (⟨S_, .i32⟩ : BufTy).Contents (Elt F) → (⟨S320000, .i32⟩ : BufTy).Contents (Elt F)) (val V main_c_27) :=
  ops_writes.unary V 200 (x := main_c_27) (y := main_v95) (broadcastInDim S320000 ![] bcast_S_S320000 : (⟨S_, .i32⟩ : BufTy).Contents (Elt F) → (⟨S320000, .i32⟩ : BufTy).Contents (Elt F)) rfl (by decide +kernel) (by decide +kernel)

theorem val_main_v96 (V : Valuation τ sig (Elt F)) : val V main_v96 = (addi : (⟨S320000, .i32⟩ : BufTy).Contents (Elt F) → (⟨S320000, .i32⟩ : BufTy).Contents (Elt F) → (⟨S320000, .i32⟩ : BufTy).Contents (Elt F)) (val V main_v71) (val V main_v95) :=
  ops_writes.binary V 201 (a := main_v71) (b := main_v95) (y := main_v96) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem val_main_v97 (V : Valuation τ sig (Elt F)) : val V main_v97 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (val V main_v94) (val V main_v96) (val V main_v71) :=
  ops_writes.ternary V 202 (c := main_v94) (a := main_v96) (b := main_v71) (y := main_v97) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem val_main_v98 (V : Valuation τ sig (Elt F)) : val V main_v98 = (broadcastInDim S320000x1 ![0] bcast_S320000_S320000x1_0 : (⟨S320000, .i32⟩ : BufTy).Contents (Elt F) → (⟨S320000x1, .i32⟩ : BufTy).Contents (Elt F)) (val V main_v97) :=
  ops_writes.unary V 203 (x := main_v97) (y := main_v98) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem val_main_v99 (V : Valuation τ sig (Elt F)) : val V main_v99 = ((fun x i => Host.gather gather_S320000_S320000x1_S320000_n_0_n_n_0_1_1 x i) : (⟨S320000, .i32⟩ : BufTy).Contents (Elt F) → (⟨S320000x1, .i32⟩ : BufTy).Contents (Elt F) → (⟨S320000, .i32⟩ : BufTy).Contents (Elt F)) (val V main_v81) (val V main_v98) :=
  ops_writes.binary V 204 (a := main_v81) (b := main_v98) (y := main_v99) ((fun x i => Host.gather gather_S320000_S320000x1_S320000_n_0_n_n_0_1_1 x i) : (⟨S320000, .i32⟩ : BufTy).Contents (Elt F) → (⟨S320000x1, .i32⟩ : BufTy).Contents (Elt F) → (⟨S320000, .i32⟩ : BufTy).Contents (Elt F)) rfl (by decide +kernel) (by decide +kernel) (by decide +kernel)

theorem val_main_v100 (V : Valuation τ sig (Elt F)) : val V main_v100 = (broadcastInDim S320000x1 ![0] bcast_S320000_S320000x1_0 : (⟨S320000, .i32⟩ : BufTy).Contents (Elt F) → (⟨S320000x1, .i32⟩ : BufTy).Contents (Elt F)) (val V main_v99) :=
  ops_writes.unary V 205 (x := main_v99) (y := main_v100) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem val_main_v101 (V : Valuation τ sig (Elt F)) : val V main_v101 = (sitofp .f32 : (⟨S320000x1, .i32⟩ : BufTy).Contents (Elt F) → (⟨S320000x1, .f32⟩ : BufTy).Contents (Elt F)) (val V main_v100) :=
  ops_writes.unary V 206 (x := main_v100) (y := main_v101) (sitofp .f32 : (⟨S320000x1, .i32⟩ : BufTy).Contents (Elt F) → (⟨S320000x1, .f32⟩ : BufTy).Contents (Elt F)) rfl (by decide +kernel) (by decide +kernel)

theorem val_main_v102 (V : Valuation τ sig (Elt F)) : val V main_v102 = (broadcastInDim S320000x128 ![0, 1] bcast_S320000x1_S320000x128_0_1 : (⟨S320000x1, .f32⟩ : BufTy).Contents (Elt F) → (⟨S320000x128, .f32⟩ : BufTy).Contents (Elt F)) (val V main_v101) :=
  ops_writes.unary V 207 (x := main_v101) (y := main_v102) (broadcastInDim S320000x128 ![0, 1] bcast_S320000x1_S320000x128_0_1 : (⟨S320000x1, .f32⟩ : BufTy).Contents (Elt F) → (⟨S320000x128, .f32⟩ : BufTy).Contents (Elt F)) rfl (by decide +kernel) (by decide +kernel)

theorem val_main_v103 (V : Valuation τ sig (Elt F)) : val V main_v103 = (Host.divf : (⟨S320000x128, .f32⟩ : BufTy).Contents (Elt F) → (⟨S320000x128, .f32⟩ : BufTy).Contents (Elt F) → (⟨S320000x128, .f32⟩ : BufTy).Contents (Elt F)) (val V main_arg0) (val V main_v102) :=
  ops_writes.binary V 208 (a := main_arg0) (b := main_v102) (y := main_v103) (Host.divf : (⟨S320000x128, .f32⟩ : BufTy).Contents (Elt F) → (⟨S320000x128, .f32⟩ : BufTy).Contents (Elt F) → (⟨S320000x128, .f32⟩ : BufTy).Contents (Elt F)) rfl (by decide +kernel) (by decide +kernel) (by decide +kernel)

theorem val_main_cst_28 (V : Valuation τ sig (Elt F)) : val V main_cst_28 = (constant S_ .f32 0x00000000#32) :=
  ops_writes.nullary V 209 (y := main_cst_28) (constant S_ .f32 0x00000000#32) rfl (by decide +kernel)

theorem val_main_v104 (V : Valuation τ sig (Elt F)) : val V main_v104 = (broadcastInDim S320000x128 ![] bcast_S_S320000x128 : (⟨S_, .f32⟩ : BufTy).Contents (Elt F) → (⟨S320000x128, .f32⟩ : BufTy).Contents (Elt F)) (val V main_cst_28) :=
  ops_writes.unary V 210 (x := main_cst_28) (y := main_v104) (broadcastInDim S320000x128 ![] bcast_S_S320000x128 : (⟨S_, .f32⟩ : BufTy).Contents (Elt F) → (⟨S320000x128, .f32⟩ : BufTy).Contents (Elt F)) rfl (by decide +kernel) (by decide +kernel)

theorem val_main_v105 (V : Valuation τ sig (Elt F)) : val V main_v105 = (broadcastInDim S320000x1 ![0] bcast_S320000_S320000x1_0 : (⟨S320000, .i32⟩ : BufTy).Contents (Elt F) → (⟨S320000x1, .i32⟩ : BufTy).Contents (Elt F)) (val V main_v71) :=
  ops_writes.unary V 211 (x := main_v71) (y := main_v105) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem val_main_v106 (V : Valuation τ sig (Elt F)) : val V main_v106 = ((fun x i u => Host.scatterAdd scatter_S320000x128_S320000x1_S320000x128_1_0_0_1 x i u) : (⟨S320000x128, .f32⟩ : BufTy).Contents (Elt F) → (⟨S320000x1, .i32⟩ : BufTy).Contents (Elt F) → (⟨S320000x128, .f32⟩ : BufTy).Contents (Elt F) → (⟨S320000x128, .f32⟩ : BufTy).Contents (Elt F)) (val V main_v104) (val V main_v105) (val V main_v103) :=
  ops_writes.ternary V 212 (c := main_v104) (a := main_v105) (b := main_v103) (y := main_v106) ((fun x i u => Host.scatterAdd scatter_S320000x128_S320000x1_S320000x128_1_0_0_1 x i u) : (⟨S320000x128, .f32⟩ : BufTy).Contents (Elt F) → (⟨S320000x1, .i32⟩ : BufTy).Contents (Elt F) → (⟨S320000x128, .f32⟩ : BufTy).Contents (Elt F) → (⟨S320000x128, .f32⟩ : BufTy).Contents (Elt F)) rfl (by decide +kernel) (by decide +kernel) (by decide +kernel) (by decide +kernel)

end Cert.ReferenceIdeal.Hand
-- ==== Proof.ReferenceIdeal.Frame.lean ====
module

public import proofs.«01_k».proof.Proof.ReferenceIdeal.Values
public import Idealize.ShloMosaic.Lib.Quiescent
public import Idealize.ShloMosaic.Lib.StableHlo.RunHlo

/-! # Every execution of the reference ends, its arguments unchanged -/

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's run with its four results as the list of operations leaves them and its arguments unchanged. -/
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = val (launchContents m c) main_v3
      ∧ r.2.mem ((c.tc : Thread nD τ).loc main_v92) = val (launchContents m c) main_v92
      ∧ r.2.mem ((c.tc : Thread nD τ).loc main_v106) = val (launchContents m c) main_v106
      ∧ r.2.mem ((c.tc : Thread nD τ).loc main_v71) = val (launchContents m c) main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (run_after m ρ) fun r hr c => ⟨hr c main_v3, hr c main_v92, hr c main_v106, hr c main_v71,
    (hr c main_arg0).trans (val_main_arg0 _), (hr c main_arg1).trans (val_main_arg1 _),
    (hr c main_arg2).trans (val_main_arg2 _), (hr c main_arg3).trans (val_main_arg3 _)⟩

/-- Every execution of the reference ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  θ_run_mono (run_values m ρ) fun r hr => ⟨fun c => (hr c).2.2.2.2, sem_eq_zero_of_no_sems rfl r.2⟩

end Cert.ReferenceIdeal.Hand
-- ==== Proof.Value.Offsets.lean ====
module

public import Idealize.ShloMosaic.Lib.Routing.Ops
public import Idealize.ShloMosaic.Lib.Pointwise
public import Idealize.ShloMosaic.Lib.MatmulPlain
public import Idealize.ShloMosaic.Lib.StackMember

/-! # Offsets, new coordinates and hashes, one row at a time

Each row of features gives three offsets; each row of coordinates is moved by its offsets, rounded toward zero; each
row of new coordinates gives one hash word. -/

@[expose] public section

set_option maxRecDepth 16384

noncomputable section

namespace Cert.Words

open Idealize.ShloMosaic hiding ix0 ix1 ix2 ix3
open Idealize.ShloMosaic.ValueIdx Idealize.ShloMosaic.Routing

/-- Offset `c` of a row of features: its product with column `c` of the weights, plus the bias. -/
def offsetOf (row : Fin 128 → Ideal .f32) (W : FVec Ideal (shape2 128 3) .f32) (b : Fin 3 → Ideal .f32) (c : Fin 3) : Ideal .f32 :=
  (∑ k, row k * W (ix2 k c)) + b c

/-- New coordinate `a` of a row: the first is kept, the others are moved by the rounded offsets. -/
def coordOf (C : Fin 4 → BitVec 32) (O : Fin 3 → Ideal .f32) (a : Fin 4) : BitVec 32 :=
  C a + if h : a.val < 1 then 0#32 else FloatOps.fptosi 32 (O ⟨a.val - 1, by have := a.isLt; omega⟩)

/-- The hash word of a row of new coordinates. -/
def hashOf (r : Fin 4 → BitVec 32) : BitVec 32 :=
  (((r 0 + 1024#32) * 4096#32 + (r 1 + 1024#32)) * 4096#32 + (r 2 + 1024#32)) * 4096#32 + (r 3 + 1024#32)

/-- Column `k` of a matrix as a vector. -/
theorem column_at {α : Type} {R C : ℕ} (x : (shape2 R C).Idx → α) (k : Fin C) (hs : (shape2 R C).Slices ![0, k.val] (shape2 R 1))
    (hc : (shape2 R 1).ShapeCasts (shape1 R)) (i : Fin R) :
    shapeCast (shape1 R) (extractStridedSlice (shape2 R 1) ![0, k.val] x hs) hc (ix1 i) = x (ix2 i k) := by
  rw [cast21 _ hc i 0 i (by simp)]
  unfold extractStridedSlice
  refine congrArg x (funext fun a => Fin.ext ?_)
  match a with
  | ⟨0, _⟩ => exact Nat.zero_add _
  | ⟨1, _⟩ => rfl

/-- A one-column matrix beside a three-column one, read at a row. -/
theorem beside_at {α : Type} {R : ℕ} (u : (shape2 R 1).Idx → α) (v : (shape2 R 3).Idx → α)
    (h : Shape.Concatenates [shape2 R 1, shape2 R 3] (shape2 R 4) 1) (i : Fin R) (a : Fin 4) :
    concatenate (shape2 R 4) 1 [⟨shape2 R 1, u⟩, ⟨shape2 R 3, v⟩] h (ix2 i a)
      = if h : a.val < 1 then u (ix2 i 0) else v (ix2 i ⟨a.val - 1, by have := a.isLt; omega⟩) := by
  rw [concatenate_pair_apply]
  by_cases ha : a.val < 1
  · rw [dif_pos ha]
    refine (dif_pos ha).trans ?_
    refine congrArg u (funext fun b => Fin.ext ?_)
    match b with
    | ⟨0, _⟩ => rfl
    | ⟨1, _⟩ => exact Nat.lt_one_iff.1 ha
  · rw [dif_neg ha]
    refine (dif_neg ha).trans ?_
    refine congrArg v (funext fun b => Fin.ext ?_)
    match b with
    | ⟨0, _⟩ => rfl
    | ⟨1, _⟩ => rfl

end Cert.Words
-- ==== Proof.KernelIdeal.HeadVal.lean ====
module

public import proofs.«01_k».proof.Proof.KernelIdeal.Head
public import proofs.«01_k».proof.Proof.Value.Offsets
public import Idealize.ShloMosaic.Lib.Pipeline.ValueKit.Geometry

/-! # What the first kernel computes: offsets, new coordinates and hashes, row by row -/

@[expose] public section

set_option maxRecDepth 16384

noncomputable section

namespace Cert.KernelIdeal.Hand

open Cert.KernelIdeal Cert.KernelIdeal.Gen Cert.Words
open Idealize.ShloMosaic hiding ix0 ix1 ix2 ix3
open Idealize.ShloMosaic.ValueIdx Idealize.ShloMosaic.Routing
open Idealize.ShloMosaic.TcCoe
open Idealize.SL.Sem
open Idealize.ShloMosaic.Pipeline (Dat Cfg Window)

/-! ## One block -/

theorem offsets_at (x : Vec Ideal S2000x128 .f32) (w : Vec Ideal S128x3 .f32) (b : Vec Ideal S1x3 .f32) (l : Fin 2000) (c : Fin 3) :
    k0_pay1 x w b (ix2 l c) = offsetOf (fun k => x (ix2 l k)) w (fun c => b (ix2 0 c)) c := by
  unfold k0_pay1 offsetOf
  refine congrArg₂ (· + ·) ?_ ?_
  · refine (Ideal.matmul_plain_apply (M := 2000) (K := 128) (N := 3) none x w _ l c).trans ?_
    refine (congrArg (· + _) (Ideal.ofBits_zero (φ := .f32))).trans (zero_add _)
  · rw [shapeCast_shapeCast]
    refine broadcastTo_apply _ _ _ _ fun a => ?_
    match a with
    | ⟨0, _⟩ => rfl
    | ⟨1, _⟩ => rfl

theorem coords_at (x : Vec Ideal S2000x128 .f32) (w : Vec Ideal S128x3 .f32) (b : Vec Ideal S1x3 .f32) (C : Vec Ideal S2000x4 .i32)
    (l : Fin 2000) (a : Fin 4) :
    k0_pay2 x w b C (ix2 l a) = coordOf (fun a => C (ix2 l a)) (fun c => k0_pay1 x w b (ix2 l c)) a := by
  unfold k0_pay2 coordOf
  exact congrArg (C (ix2 l a) + ·) (beside_at (R := 2000) _ _ _ l a)

theorem hashes_at (x : Vec Ideal S2000x128 .f32) (w : Vec Ideal S128x3 .f32) (b : Vec Ideal S1x3 .f32) (C : Vec Ideal S2000x4 .i32)
    (l : Fin 2000) : k0_pay3 x w b C (ix3 0 0 l) = hashOf fun a => k0_pay2 x w b C (ix2 l a) := by
  unfold k0_pay3
  refine (cast13 (a := 1) (b := 1) (c := 2000) (n := 2000) _ _ 0 0 l l (by simp)).trans ?_
  have col := fun (k : Fin 4) hs hc => column_at (R := 2000) (C := 4) (addi (k0_pay2 x w b C) (broadcast S2000x4 1024#32)) k hs hc l
  exact congrArg₂ (· + ·) (congrArg (· * 4096#32) (congrArg₂ (· + ·) (congrArg (· * 4096#32) (congrArg₂ (· + ·)
    (congrArg (· * 4096#32) (col 0 _ _)) (col 1 _ _))) (col 2 _ _))) (col 3 _ _)

/-! ## The arrays -/

variable (V : (c : Dev nD) → (b : Ref sig .tc) → Buf (Elt Ideal) ((c : Thread nD τ).loc b))

theorem headPoint_lt (t : Fin cfg0.N) : t.val < 160 := lt_of_lt_of_eq t.isLt N_0

theorem index0_0 : ∀ t : Fin cfg0.N, win0_0.index t = ![t.val, 0] := by decide +kernel
theorem index0_1 : ∀ t : Fin cfg0.N, win0_1.index t = ![t.val, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0, 0] := by decide +kernel

/-- Row `l` of block `t` in the whole array. -/
def row (t : Fin cfg0.N) (l : Fin 2000) : Fin 320000 := ⟨t.val * 2000 + l.val, by have := headPoint_lt t; have := l.isLt; omega⟩

/-- The block of coordinates at point `t`. -/
theorem block0_0 (c : Dev nD) (t : Fin cfg0.N) (l : Fin 2000) (a : Fin 4) :
    iblk0 V c 0 t (ix2 l a) = V c main_arg1 (ix2 (row t l) a) := by
  refine congrArg (V c main_arg1) (funext fun b => Fin.ext ?_)
  blk_simp [index0_0]
  match b with
  | ⟨0, _⟩ => simp [ix2, row]
  | ⟨1, _⟩ => simp [ix2]

/-- The block of features at point `t`. -/
theorem block0_1 (c : Dev nD) (t : Fin cfg0.N) (l : Fin 2000) (k : Fin 128) :
    iblk0 V c 1 t (ix2 l k) = V c main_arg0 (ix2 (row t l) k) := by
  refine congrArg (V c main_arg0) (funext fun b => Fin.ext ?_)
  blk_simp [index0_1]
  match b with
  | ⟨0, _⟩ => simp [ix2, row]
  | ⟨1, _⟩ => simp [ix2]

/-- The weights, whole at every point. -/
theorem block0_2 (c : Dev nD) (t : Fin cfg0.N) : iblk0 V c 2 t = V c main_arg2 := by
  funext i
  refine congrArg (V c main_arg2) (funext fun b => Fin.ext ?_)
  blk_simp [index0_2]
  match b with
  | ⟨0, _⟩ => simp
  | ⟨1, _⟩ => simp

/-- The bias, whole at every point. -/
theorem block0_3 (c : Dev nD) (t : Fin cfg0.N) : iblk0 V c 3 t = V c main_v0 := by
  funext i
  refine congrArg (V c main_v0) (funext fun b => Fin.ext ?_)
  blk_simp [index0_3]
  match b with
  | ⟨0, _⟩ => simp
  | ⟨1, _⟩ => simp

/-- The offsets of row `i`, from the contents the kernel is entered with. -/
def offs (c : Dev nD) (i : Fin 320000) (a : Fin 3) : Ideal .f32 :=
  offsetOf (fun k => V c main_arg0 (ix2 i k)) (V c main_arg2) (fun a => V c main_v0 (ix2 0 a)) a

/-- The new coordinates of row `i`. -/
def crds (c : Dev nD) (i : Fin 320000) (a : Fin 4) : BitVec 32 := coordOf (fun a => V c main_arg1 (ix2 i a)) (offs V c i) a

theorem pay1_at (c : Dev nD) (t : Fin cfg0.N) (l : Fin 2000) (a : Fin 3) :
    k0_pay1 (F := Ideal) (iblk0 V c 1 t) (iblk0 V c 2 t) (iblk0 V c 3 t) (ix2 l a) = offs V c (row t l) a := by
  refine (offsets_at _ _ _ l a).trans ?_
  unfold offs
  rw [block0_2, block0_3]
  exact congrArg (fun f => offsetOf f _ _ a) (funext fun k => block0_1 V c t l k)

theorem pay2_at (c : Dev nD) (t : Fin cfg0.N) (l : Fin 2000) (a : Fin 4) :
    k0_pay2 (F := Ideal) (iblk0 V c 1 t) (iblk0 V c 2 t) (iblk0 V c 3 t) (iblk0 V c 0 t) (ix2 l a) = crds V c (row t l) a := by
  refine (coords_at _ _ _ _ l a).trans ?_
  unfold crds
  exact congrArg₂ (fun f g => coordOf f g a) (funext fun k => block0_0 V c t l k) (funext fun k => pay1_at V c t l k)

/-- Every index of a two-axis shape is its pair of coordinates. -/
theorem pair_eq {A B : ℕ} (y : (shape2 A B).Idx) : y = ix2 (y 0) (y 1) := by
  funext b
  match b with
  | ⟨0, _⟩ => rfl
  | ⟨1, _⟩ => rfl

theorem zero2 : (![0, 0] : Fin 2 → ℕ) = fun _ => 0 := by decide
theorem zero3 : (![0, 0, 0] : Fin 3 → ℕ) = fun _ => 0 := by decide

theorem out4_eq (x0 : Vec Ideal S2000x4 .i32) (x1 : Vec Ideal S2000x128 .f32) (x2 : Vec Ideal S128x3 .f32) (x3 : Vec Ideal S1x3 .f32) :
    out0_4 x0 x1 x2 x3 = k0_pay1 x1 x2 x3 := by
  have e1 : View.ld x1 r0_0 = x1 := View.ld_unit_zero zero2 _ x1
  have e2 : View.ld x2 r0_1 = x2 := View.ld_unit_zero zero2 _ x2
  have e3 : View.ld x3 r0_2 = x3 := View.ld_unit_zero zero2 _ x3
  unfold out0_4
  rw [e1, e2, e3]
  exact View.canon_cons_unit_zero zero2 _ _ _

theorem out5_eq (x0 : Vec Ideal S2000x4 .i32) (x1 : Vec Ideal S2000x128 .f32) (x2 : Vec Ideal S128x3 .f32) (x3 : Vec Ideal S1x3 .f32) :
    out0_5 x0 x1 x2 x3 = k0_pay2 x1 x2 x3 x0 := by
  have e0 : View.ld x0 r0_4 = x0 := View.ld_unit_zero zero2 _ x0
  have e1 : View.ld x1 r0_0 = x1 := View.ld_unit_zero zero2 _ x1
  have e2 : View.ld x2 r0_1 = x2 := View.ld_unit_zero zero2 _ x2
  have e3 : View.ld x3 r0_2 = x3 := View.ld_unit_zero zero2 _ x3
  unfold out0_5
  rw [e1, e2, e3, e0]
  exact View.canon_cons_unit_zero zero2 _ _ _

theorem out6_eq (x0 : Vec Ideal S2000x4 .i32) (x1 : Vec Ideal S2000x128 .f32) (x2 : Vec Ideal S128x3 .f32) (x3 : Vec Ideal S1x3 .f32) :
    out0_6 x0 x1 x2 x3 = k0_pay3 x1 x2 x3 x0 := by
  have e0 : View.ld x0 r0_4 = x0 := View.ld_unit_zero zero2 _ x0
  have e1 : View.ld x1 r0_0 = x1 := View.ld_unit_zero zero2 _ x1
  have e2 : View.ld x2 r0_1 = x2 := View.ld_unit_zero zero2 _ x2
  have e3 : View.ld x3 r0_2 = x3 := View.ld_unit_zero zero2 _ x3
  unfold out0_6
  rw [e1, e2, e3, e0]
  exact View.canon_cons_unit_zero zero3 _ _ _

/-- The first kernel's first output: the offsets. -/
theorem offsets_arr (c : Dev nD) : (dat0 V c).arrAt 4 cfg0.N = (fun i : S320000x3.Idx => offs V c (i 0) (i 1)) := by
  refine (dat0 V c).arrAt_eq_of_covers 4 _ (by decide +kernel) fun t hf y => ?_
  blk_simp [index0_4]
  rw [after0_4, out4_eq]
  refine (congrArg (k0_pay1 _ _ _) (pair_eq (A := 2000) (B := 3) y)).trans ((pay1_at V c t (y 0) (y 1)).trans ?_)
  refine congrArg₂ (offs V c) (Fin.ext ?_) (Fin.ext ?_)
  · blk_simp [index0_4]
    simp [row]
  · blk_simp [index0_4]

/-- The first kernel's second output: the new coordinates. -/
theorem coords_arr (c : Dev nD) : (dat0 V c).arrAt 5 cfg0.N = (fun i : S320000x4.Idx => crds V c (i 0) (i 1)) := by
  refine (dat0 V c).arrAt_eq_of_covers 5 _ (by decide +kernel) fun t hf y => ?_
  blk_simp [index0_5]
  rw [after0_5, out5_eq]
  refine (congrArg (k0_pay2 _ _ _ _) (pair_eq (A := 2000) (B := 4) y)).trans ((pay2_at V c t (y 0) (y 1)).trans ?_)
  refine congrArg₂ (crds V c) (Fin.ext ?_) (Fin.ext ?_)
  · blk_simp [index0_5]
    simp [row]
  · blk_simp [index0_5]

/-- The first kernel's third output: the hashes, two thousand to a block. -/
theorem hashes_arr (c : Dev nD) : (dat0 V c).arrAt 6 cfg0.N
    = (fun i : S160x1x2000.Idx => hashOf (crds V c ⟨(i 0).val * 2000 + (i 2).val, by have := (i 0).isLt; have := (i 2).isLt; dsimp at *; omega⟩)) := by
  refine (dat0 V c).arrAt_eq_of_covers 6 _ (by decide +kernel) fun t hf y => ?_
  blk_simp [index0_6]
  rw [after0_6, out6_eq]
  have hy : y = ix3 0 0 (y 2) := by
    funext a
    match a with
    | ⟨0, _⟩ => exact Subsingleton.elim (α := Fin 1) _ _
    | ⟨1, _⟩ => exact Subsingleton.elim (α := Fin 1) _ _
    | ⟨2, _⟩ => rfl
  refine (congrArg (k0_pay3 _ _ _ _) hy).trans ((hashes_at _ _ _ _ (y 2)).trans (congrArg hashOf (funext fun a => (pay2_at V c t (y 2) a).trans ?_)))
  rfl

end Cert.KernelIdeal.Hand
-- ==== Proof.Value.Words.lean ====
module

public import Idealize.ShloMosaic.Lib.Routing.OpsOne
public import Idealize.ShloMosaic.Lib.Routing.OpsPair
public import Idealize.ShloMosaic.Lib.Routing.OpsSet
public import Idealize.ShloMosaic.Lib.SortFacts
public import Idealize.ShloMosaic.Lib.Pointwise
public import Idealize.ShloMosaic.Lib.WordCmp
public import Mathlib.Algebra.BigOperators.Intervals

/-! # Running sums of words, and group numbers of a list of keys

Sums of 32-bit words wrap, so they form a commutative group and every rearrangement below holds without a bound on the
words. The group number of position `j` in a list of keys counts the positions up to `j` whose key differs from the
key before. -/

@[expose] public section

set_option maxRecDepth 16384

noncomputable section

namespace Cert.Words

open Idealize.ShloMosaic hiding ix0 ix1 ix2 ix3
open Idealize.ShloMosaic.ValueIdx Idealize.ShloMosaic.Routing
open Finset

/-! ## The shifted-add scan -/

/-- The sum of the last `s` words up to position `l` (all of them when `l < s`). -/
def win (x : ℕ → BitVec 32) (s l : ℕ) : BitVec 32 := ∑ i ∈ range (l + 1), if l < i + s then x i else 0

theorem win_one (x : ℕ → BitVec 32) (l : ℕ) : win x 1 l = x l := by
  unfold win
  rw [Finset.sum_eq_single l]
  · rw [if_pos (by omega)]
  · intro b hb hne
    rw [if_neg]
    have := Finset.mem_range.1 hb
    omega
  · intro h
    exact absurd (Finset.mem_range.2 (by omega)) h

/-- A window that reaches past the start is the running sum. -/
theorem win_all (x : ℕ → BitVec 32) {s l : ℕ} (h : l < s) : win x s l = ∑ i ∈ range (l + 1), x i :=
  Finset.sum_congr rfl fun i _ => if_pos (by omega)

/-- One step of the scan: adding the window `s` places back doubles the window. -/
theorem win_step (x : ℕ → BitVec 32) (s l : ℕ) :
    win x s l + (if l < s then 0 else win x s (l - s)) = win x (s + s) l := by
  by_cases h : l < s
  · rw [if_pos h, win_all x h, win_all x (by omega), add_zero]
  · rw [if_neg h]
    unfold win
    have e : ∑ i ∈ range (l - s + 1), (if l - s < i + s then x i else 0)
        = ∑ i ∈ range (l + 1), (if i < l - s + 1 then (if l - s < i + s then x i else 0) else 0) := by
      have f : (range (l + 1)).filter (fun i => i < l - s + 1) = range (l - s + 1) := by
        ext i
        rw [Finset.mem_filter, Finset.mem_range, Finset.mem_range]
        omega
      rw [← f, Finset.sum_filter]
    rw [e, ← Finset.sum_add_distrib]
    refine Finset.sum_congr rfl fun i hi => ?_
    have := Finset.mem_range.1 hi
    by_cases h1 : l < i + s
    · rw [if_pos h1, if_neg (by omega), if_pos (by omega), add_zero]
    · rw [if_neg h1, if_pos (by omega), zero_add]
      by_cases h2 : l < i + (s + s)
      · rw [if_pos h2, if_pos (by omega)]
      · rw [if_neg h2, if_neg (by omega)]

/-- A vector moved `A` places to the right, with `p` in the places left free, read at position `l`. -/
theorem shift_at {A B N : ℕ} {α : Type} (x : (shape1 N).Idx → α) (p : α) (hs : (shape1 N).Slices ![0] (shape1 B))
    (hc : Shape.Concatenates [shape1 A, shape1 B] (shape1 N) 0) (l : Fin N) :
    concatenate (shape1 N) 0 [⟨shape1 A, broadcast (shape1 A) p⟩, ⟨shape1 B, extractStridedSlice (shape1 B) ![0] x hs⟩] hc (ix1 l)
      = if l.val < A then p else x (ix1 ⟨l.val - A, by have := l.isLt; omega⟩) := by
  rw [concatenate_pair_apply]
  by_cases h : l.val < A
  · rw [if_pos h]
    exact dif_pos h
  · rw [if_neg h]
    refine (dif_neg h).trans ?_
    refine congrArg x (funext fun a => Fin.ext ?_)
    match a with
    | ⟨0, _⟩ => exact Nat.zero_add _

/-- One step of the scan on a vector: if `y` holds the windows of length `A`, then `y` plus `y` moved `A` places holds
    those of length `A + A`. -/
theorem scan_step {A B N : ℕ} (x : ℕ → BitVec 32) (y : (shape1 N).Idx → BitVec 32) (hs : (shape1 N).Slices ![0] (shape1 B))
    (hc : Shape.Concatenates [shape1 A, shape1 B] (shape1 N) 0) (hy : ∀ l : Fin N, y (ix1 l) = win x A l.val) (l : Fin N) :
    addi (w := 32) y (concatenate (shape1 N) 0 [⟨shape1 A, broadcast (shape1 A) 0#32⟩, ⟨shape1 B, extractStridedSlice (shape1 B) ![0] y hs⟩] hc) (ix1 l)
      = win x (A + A) l.val := by
  show y (ix1 l) + _ = _
  rw [shift_at, hy l, ← win_step]
  by_cases h : l.val < A
  · rw [if_pos h, if_pos h]; rfl
  · rw [if_neg h, if_neg h, hy]

/-- The word that says whether two words differ. -/
theorem ne_word {w : ℕ} (x y : BitVec w) : (IntOp.cmpi .ne x y).setWidth 32 = if x ≠ y then 1#32 else 0#32 := by
  rw [Idealize.ShloMosaic.WordCmp.cmpi_ne_eq]
  by_cases h : x = y
  · rw [if_neg (not_not.2 h), decide_eq_false (not_not.2 h)]; rfl
  · rw [if_pos h, decide_eq_true h]; rfl

/-! ## Group numbers -/

/-- Does a new group start at position `j`? It does at the first position and where the key changes. -/
def starts (G : ℕ → BitVec 32) (j : ℕ) : Prop := j = 0 ∨ G j ≠ G (j - 1)

instance (G : ℕ → BitVec 32) (j : ℕ) : Decidable (starts G j) := inferInstanceAs (Decidable (_ ∨ _))

/-- One at a position where a new group starts, else zero. -/
def mark (G : ℕ → BitVec 32) (j : ℕ) : ℕ := if starts G j then 1 else 0

/-- The number of the group that position `j` belongs to, from zero. -/
def group (G : ℕ → BitVec 32) (j : ℕ) : ℕ := (∑ i ∈ range (j + 1), mark G i) - 1

theorem sum_mark_pos (G : ℕ → BitVec 32) (j : ℕ) : 1 ≤ ∑ i ∈ range (j + 1), mark G i := by
  rw [Finset.sum_range_succ']
  have : mark G 0 = 1 := if_pos (.inl rfl)
  omega

theorem sum_mark_le (G : ℕ → BitVec 32) (j : ℕ) : ∑ i ∈ range (j + 1), mark G i ≤ j + 1 := by
  have := Finset.sum_le_card_nsmul (range (j + 1)) (mark G) 1 (fun i _ => by unfold mark; split <;> omega)
  simpa using this

/-- A position's group number is at most the position. -/
theorem group_le (G : ℕ → BitVec 32) (j : ℕ) : group G j ≤ j := by
  have := sum_mark_le G j
  unfold group
  omega

/-- The running sum of the mark words, less one, is the group number. -/
theorem group_word (G : ℕ → BitVec 32) (j : ℕ) :
    (∑ i ∈ range (j + 1), BitVec.ofNat 32 (mark G i)) - 1#32 = BitVec.ofNat 32 (group G j) := by
  have e : ∀ M : ℕ, ∑ i ∈ range M, BitVec.ofNat 32 (mark G i) = BitVec.ofNat 32 (∑ i ∈ range M, mark G i) := by
    intro M
    induction M with
    | zero => rfl
    | succ M ih => rw [Finset.sum_range_succ, Finset.sum_range_succ, BitVec.ofNat_add, ih]
  rw [e]
  have := sum_mark_pos G j
  unfold group
  obtain ⟨s, hs⟩ : ∃ s, ∑ i ∈ range (j + 1), mark G i = s + 1 := ⟨_, (Nat.sub_add_cancel this).symm⟩
  rw [hs, BitVec.ofNat_add, Nat.add_sub_cancel, BitVec.add_sub_cancel]

/-- The group number depends on the keys up to the position only. -/
theorem group_congr {G G' : ℕ → BitVec 32} {j : ℕ} (h : ∀ i ≤ j, G i = G' i) : group G j = group G' j := by
  unfold group
  refine congrArg (· - 1) (Finset.sum_congr rfl fun i hi => ?_)
  have := Finset.mem_range.1 hi
  have e : starts G i ↔ starts G' i := by unfold starts; rw [h i (by omega), h (i - 1) (by omega)]
  unfold mark
  by_cases hs : starts G i
  · rw [if_pos hs, if_pos (e.1 hs)]
  · rw [if_neg hs, if_neg fun q => hs (e.2 q)]

end Cert.Words
-- ==== Proof.KernelIdeal.RankVal.lean ====
module

public import proofs.«01_k».proof.Proof.KernelIdeal.Rank
public import proofs.«01_k».proof.Proof.Value.Words
public import Idealize.ShloMosaic.Lib.Pipeline.ValueKit.Geometry

/-! # What the second kernel computes: the group number of every sorted position

If the kernel's input holds the keys `G 0, G 1, …` in order, two thousand to a block, then its output holds at every
position the number of the group the position belongs to. -/

@[expose] public section

set_option maxRecDepth 16384

noncomputable section

namespace Cert.KernelIdeal.Hand

open Cert.KernelIdeal Cert.KernelIdeal.Gen Cert.Words
open Idealize.ShloMosaic hiding ix0 ix1 ix2 ix3
open Idealize.ShloMosaic.ValueIdx Idealize.ShloMosaic.Routing
open Idealize.ShloMosaic.TcCoe
open Idealize.SL.Sem
open Idealize.ShloMosaic.Pipeline (Dat Cfg Window)
open Finset

variable {F : FTy → Type} [FloatOps F]

/-- Reshaping an `[a, b, c]` array to a vector reads, at `p`, the entry `(i, j, l)` whenever `p = (i * b + j) * c + l`. -/
theorem cast31 {α : Type} {a b c n : ℕ} (x : (shape3 a b c).Idx → α) (h : (shape3 a b c).ShapeCasts (shape1 n)) (i : Fin a) (j : Fin b)
    (l : Fin c) (p : Fin n) (hp : p.val = (i.val * b + j.val) * c + l.val) : shapeCast (shape1 n) x h (ix1 p) = x (ix3 i j l) := by
  refine shapeCast_apply x h _ _ ?_
  rw [Shape.rowMajor_val_three, Shape.rowMajor_val_one]
  exact hp.symm

/-- The block's keys as a vector. -/
theorem keys_at (s : Vec F S1x1x2000 .i32) (l : Fin 2000) : k1_pay5 (F := F) s (ix1 l) = s (ix3 0 0 l) :=
  cast31 _ _ _ _ _ _ (by simp)

/-- One where the key differs from the one before it, else zero; `p` stands before the first key. -/
def flag (b : ℕ → BitVec 32) (p : BitVec 32) (i : ℕ) : BitVec 32 := if b i ≠ (if i < 1 then p else b (i - 1)) then 1#32 else 0#32

/-- The body's first 128-wide window sums of the flags. -/
theorem flags_at (s : Vec F S1x1x2000 .i32) (p : BitVec 32) (b : ℕ → BitVec 32) (hb : ∀ l : Fin 2000, s (ix3 0 0 l) = b l.val)
    (l : Fin 2000) : k1_pay6 (F := F) s p (ix1 l) = win (flag b p) 256 l.val := by
  unfold k1_pay6
  refine scan_step (A := 128) (B := 1872) (N := 2000) (flag b p) _ _ _ (fun l => ?_) l
  refine scan_step (A := 64) (B := 1936) (N := 2000) (flag b p) _ _ _ (fun l => ?_) l
  refine scan_step (A := 32) (B := 1968) (N := 2000) (flag b p) _ _ _ (fun l => ?_) l
  refine scan_step (A := 16) (B := 1984) (N := 2000) (flag b p) _ _ _ (fun l => ?_) l
  refine scan_step (A := 8) (B := 1992) (N := 2000) (flag b p) _ _ _ (fun l => ?_) l
  refine scan_step (A := 4) (B := 1996) (N := 2000) (flag b p) _ _ _ (fun l => ?_) l
  refine scan_step (A := 2) (B := 1998) (N := 2000) (flag b p) _ _ _ (fun l => ?_) l
  refine scan_step (A := 1) (B := 1999) (N := 2000) (flag b p) _ _ _ (fun l => ?_) l
  rw [win_one]
  refine (ne_word _ _).trans ?_
  rw [shift_at (A := 1) (B := 1999) (N := 2000), keys_at, hb]
  have e : ∀ h, k1_pay5 (F := F) s (ix1 ⟨l.val - 1, h⟩) = b (l.val - 1) := fun h => by rw [keys_at, hb]
  rw [e]
  rfl

/-- The body's result: the running sum of the flags, plus the number of groups before, less one. -/
theorem sums_at (s : Vec F S1x1x2000 .i32) (p q : BitVec 32) (b : ℕ → BitVec 32) (hb : ∀ l : Fin 2000, s (ix3 0 0 l) = b l.val)
    (l : Fin 2000) : k1_pay1 (F := F) (k1_pay6 (F := F) s p) 0#32 q (ix1 l) = (∑ i ∈ range (l.val + 1), flag b p i) + q - 1#32 := by
  rw [← win_all (flag b p) (show l.val < 2048 by omega)]
  unfold k1_pay1
  show _ + q - 1#32 = _
  refine congrArg (fun z => z + q - 1#32) ?_
  refine scan_step (A := 1024) (B := 976) (N := 2000) (flag b p) _ _ _ (fun l => ?_) l
  refine scan_step (A := 512) (B := 1488) (N := 2000) (flag b p) _ _ _ (fun l => ?_) l
  exact scan_step (A := 256) (B := 1744) (N := 2000) (flag b p) _ _ _ (flags_at s p b hb) l

/-- The block's ranks. -/
theorem rankBlk_at (s : Vec F S1x1x2000 .i32) (p q : BitVec 32) (b : ℕ → BitVec 32) (hb : ∀ l : Fin 2000, s (ix3 0 0 l) = b l.val)
    (l : Fin 2000) : rankBlk (F := F) s p q (ix3 0 0 l) = (∑ i ∈ range (l.val + 1), flag b p i) + q - 1#32 := by
  rw [← sums_at s p q b hb l]
  unfold rankBlk k1_pay2
  exact cast13 (a := 1) (b := 1) (c := 2000) (n := 2000) _ _ 0 0 l l (by simp)

/-- The number of groups after the block. -/
theorem cumBlk_at (s : Vec F S1x1x2000 .i32) (p q : BitVec 32) (b : ℕ → BitVec 32) (hb : ∀ l : Fin 2000, s (ix3 0 0 l) = b l.val) :
    cumBlk (F := F) s p q = (∑ i ∈ range 2000, flag b p i) + q := by
  have h := sums_at (F := F) s p q b hb ⟨1999, by decide⟩
  have e : cumBlk (F := F) s p q = k1_pay1 (F := F) (k1_pay6 (F := F) s p) 0#32 q (ix1 ⟨1999, by decide⟩) + 1#32 := by
    unfold cumBlk k1_pay3 extractAt extractStridedSlice
    refine congrArg (· + 1#32) (congrArg (k1_pay1 (F := F) (k1_pay6 (F := F) s p) 0#32 q) (funext fun a => Fin.ext ?_))
    match a with
    | ⟨0, _⟩ => rfl
  rw [e, h, BitVec.sub_add_cancel]

/-- The block's last key. -/
theorem lastBlk_at (s : Vec F S1x1x2000 .i32) (b : ℕ → BitVec 32) (hb : ∀ l : Fin 2000, s (ix3 0 0 l) = b l.val) :
    lastBlk (F := F) s = b 1999 := by
  have e : lastBlk (F := F) s = k1_pay5 (F := F) s (ix1 ⟨1999, by decide⟩) := by
    unfold lastBlk k1_pay4 extractAt extractStridedSlice
    refine congrArg (k1_pay5 (F := F) s) (funext fun a => Fin.ext ?_)
    match a with
    | ⟨0, _⟩ => rfl
  rw [e, keys_at, hb]

/-- The first key plus one. -/
theorem initBlk_at (s : Vec F S1x1x2000 .i32) (b : ℕ → BitVec 32) (hb : ∀ l : Fin 2000, s (ix3 0 0 l) = b l.val) :
    initBlk (F := F) s = b 0 + 1#32 := by
  have e : initBlk (F := F) s = s (ix3 0 0 ⟨0, by decide⟩) + 1#32 := by
    unfold initBlk
    refine congrArg (· + 1#32) ?_
    refine congrArg s (funext fun a => Fin.ext ?_)
    match a with
    | ⟨0, _⟩ => rfl
    | ⟨1, _⟩ => rfl
    | ⟨2, _⟩ => rfl
  rw [e, hb]

/-! ## All blocks -/

variable (V : (c : Dev nD) → (b : Ref sig .tc) → Buf (Elt F) ((c : Thread nD τ).loc b))

/-- The kernel's input holds the keys `G`, two thousand to a block. -/
def Keys (c : Dev nD) (G : ℕ → BitVec 32) : Prop :=
  ∀ (t : Fin 160) (l : Fin 2000), V c main_v5 (ix3 t 0 l) = G (2000 * t.val + l.val)

theorem point_lt (t : Fin cfg1.N) : t.val < 160 := lt_of_lt_of_eq t.isLt N_1

theorem index1_0 : ∀ t : Fin cfg1.N, win1_0.index t = ![t.val, 0, 0] := by decide +kernel
theorem index1_1 : ∀ t : Fin cfg1.N, win1_1.index t = ![t.val, 0, 0] := by decide +kernel

theorem block1_at {c : Dev nD} {G : ℕ → BitVec 32} (h : Keys V c G) (t : Fin cfg1.N) (l : Fin 2000) :
    iblk1 V c 0 t (ix3 0 0 l) = G (2000 * t.val + l.val) := by
  rw [← h ⟨t.val, point_lt t⟩ l]
  refine congrArg (V c main_v5) (funext fun a => Fin.ext ?_)
  blk_simp [index1_0]
  match a with
  | ⟨0, _⟩ => simp [ix3]
  | ⟨1, _⟩ => simp [ix3]
  | ⟨2, _⟩ => simp [ix3]

/-- The flags of block `n` are the marks of its positions. -/
theorem flags_eq (G : ℕ → BitVec 32) (n m : ℕ) :
    ∑ i ∈ range m, flag (fun i => G (2000 * n + i)) (if n = 0 then G 0 + 1#32 else G (2000 * n - 1)) i
      = ∑ i ∈ range m, BitVec.ofNat 32 (mark G (2000 * n + i)) := by
  refine Finset.sum_congr rfl fun i _ => ?_
  have key : (G (2000 * n + i) ≠ if i < 1 then (if n = 0 then G 0 + 1#32 else G (2000 * n - 1)) else G (2000 * n + (i - 1)))
      ↔ starts G (2000 * n + i) := by
    unfold starts
    by_cases hi : i < 1
    · obtain rfl : i = 0 := by omega
      rw [if_pos hi]
      by_cases hn : n = 0
      · subst hn
        rw [if_pos rfl]
        refine iff_of_true (fun e => ?_) (.inl rfl)
        have e' : G 0 = G 0 + 1#32 := e
        bv_omega
      · rw [if_neg hn]
        exact ⟨fun q => .inr q, fun q => q.resolve_left (by omega)⟩
    · rw [if_neg hi, show 2000 * n + (i - 1) = 2000 * n + i - 1 by omega]
      exact ⟨fun q => .inr q, fun q => q.resolve_left (by omega)⟩
  unfold flag mark
  by_cases hs : starts G (2000 * n + i)
  · rw [if_pos hs, if_pos (key.2 hs)]
  · rw [if_neg hs, if_neg fun q => hs (key.1 q)]

/-- Before block `n` the carried words are the last key before the block and the number of groups so far. -/
theorem stAt_at {c : Dev nD} {G : ℕ → BitVec 32} (h : Keys V c G) : ∀ (n : ℕ) (hn : n ≤ cfg1.N),
    (stAt V c n hn).1 = (if n = 0 then G 0 + 1#32 else G (2000 * n - 1))
      ∧ (stAt V c n hn).2 = ∑ i ∈ range (2000 * n), BitVec.ofNat 32 (mark G i)
  | 0, hn => ⟨(initBlk_at _ (fun i => G i) fun l => (block1_at V h _ l).trans (by simp)), rfl⟩
  | n + 1, hn => by
    obtain ⟨h1, h2⟩ := stAt_at h n (Nat.le_of_lt hn)
    have hb := block1_at V h ⟨n, hn⟩
    refine ⟨?_, ?_⟩
    · refine (lastBlk_at _ (fun i => G (2000 * n + i)) hb).trans ?_
      rw [if_neg (by omega)]
      exact congrArg G (by omega)
    · refine (cumBlk_at _ _ _ (fun i => G (2000 * n + i)) hb).trans ?_
      rw [h1, h2, flags_eq, Nat.mul_succ, Finset.sum_range_add, add_comm]

/-- The kernel's output: at every position, the number of the position's group. -/
theorem ranks_at {c : Dev nD} {G : ℕ → BitVec 32} (h : Keys V c G) :
    (dat1 V c).arrAt 1 cfg1.N = (fun i : S160x1x2000.Idx => BitVec.ofNat 32 (group G (2000 * (i 0).val + (i 2).val))) := by
  refine (dat1 V c).arrAt_eq_of_covers 1 _ (by decide +kernel) fun t hf y => ?_
  blk_simp [index1_1]
  rw [after1_1]
  obtain ⟨h1, h2⟩ := stAt_at V h t.val (Nat.le_of_lt t.isLt)
  have hy : y = ix3 0 0 (y 2) := by
    funext a
    match a with
    | ⟨0, _⟩ => exact Subsingleton.elim (α := Fin 1) _ _
    | ⟨1, _⟩ => exact Subsingleton.elim (α := Fin 1) _ _
    | ⟨2, _⟩ => rfl
  rw [hy]
  refine (rankBlk_at _ _ _ (fun i => G (2000 * t.val + i)) (block1_at V h t) (y 2)).trans ?_
  rw [h1, h2, flags_eq, add_comm, ← Finset.sum_range_add, ← Nat.add_assoc, group_word]

end Cert.KernelIdeal.Hand
-- ==== Proof.KernelIdeal.Host.lean ====
module

public import proofs.«01_k».proof.Proof.Gen.KernelIdeal.Launch
public import proofs.«01_k».proof.Proof.Value.Ssa

/-! # The values of the host operations between and after the two kernels

`mid V b` is what buffer `b` holds after the operations between the two kernels, run from contents `V`; `fin V b` is
what it holds after the operations that follow the second kernel. Each theorem `mid_b` or `fin_b` is the operation that
writes `b`. -/

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

attribute [local irreducible] extractStridedSlice Host.reduce Host.reduceWindow Host.scatter Host.scatterAdd Host.gather Host.sort2 shapeCast transpose Host.reverse broadcastInDim

theorem mid_writes : Cert.Words.Writes (hostOps1 : List (HloOp τ sig (Elt F))) [main_v2, main_v3, main_v4_0, main_v4_1, main_v5] := rfl

theorem fin_writes : Cert.Words.Writes (hostOps2 : List (HloOp τ sig (Elt F))) [main_v7, main_c, main_v8, main_c_0, main_v9, main_v10, main_c_1, main_v11, main_v12, main_v13, main_v14, main_v15, main_c_2, main_v16, main_c_3, main_v17, main_v18, main_c_4, main_v19, main_v20, main_v21, main_v22, main_c_5, main_v23, main_v24, main_c_6, main_v25, main_v26, main_v27, main_v28, main_c_7, main_v29, main_v30, main_c_8, main_v31, main_v32, main_v33, main_v34, main_v35, main_cst, main_v36, main_c_9, main_v37, main_v38, main_c_10, main_v39, main_v40, main_v41, main_v42, main_v43, main_v44, main_v45, main_v46, main_v47, main_cst_11, main_v48, main_c_12, main_v49, main_v50, main_c_13, main_v51, main_v52, main_v53, main_v54, main_v55, main_c_14, main_v56, main_v57, main_c_15, main_v58, main_v59, main_v60, main_v61, main_v62, main_v63, main_v64, main_v65] := rfl

/-- What buffer `b` holds after the operations between the kernels. -/
abbrev mid (V : Valuation τ sig (Elt F)) (b : Ref sig .tc) : (Proc.devRef (τ := τ) .tc b).ty.Contents (Elt F) := after hostOps1 V (Proc.devRef .tc b)

/-- What buffer `b` holds after the operations that follow the second kernel. -/
abbrev fin (V : Valuation τ sig (Elt F)) (b : Ref sig .tc) : (Proc.devRef (τ := τ) .tc b).ty.Contents (Elt F) := after hostOps2 V (Proc.devRef .tc b)

theorem mid_main_v2 (V : Valuation τ sig (Elt F)) : mid V main_v2 = ((fun v => shapeCast S320000 v shapeCasts_S160x1x2000_S320000) : (⟨S160x1x2000, .i32⟩ : BufTy).Contents (Elt F) → (⟨S320000, .i32⟩ : BufTy).Contents (Elt F)) (mid V main_v1_2) :=
  mid_writes.reshape V 0 (x := main_v1_2) (y := main_v2) rfl (by decide +kernel) (by decide +kernel)

theorem mid_main_v3 (V : Valuation τ sig (Elt F)) : mid V main_v3 = (iotaInDim S320000 32 0) :=
  mid_writes.nullary V 1 (y := main_v3) (iotaInDim S320000 32 0) rfl (by decide +kernel)

theorem mid_main_v4_0 (V : Valuation τ sig (Elt F)) : mid V main_v4_0 = ((fun x y => (Host.sort2 S320000 0 comparator_i32_i32_d0 x y).1) : (⟨S320000, .i32⟩ : BufTy).Contents (Elt F) → (⟨S320000, .i32⟩ : BufTy).Contents (Elt F) → (⟨S320000, .i32⟩ : BufTy).Contents (Elt F)) (mid V main_v2) (mid V main_v3) :=
  mid_writes.binary V 2 (a := main_v2) (b := main_v3) (y := main_v4_0) ((fun x y => (Host.sort2 S320000 0 comparator_i32_i32_d0 x y).1) : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem mid_main_v4_1 (V : Valuation τ sig (Elt F)) : mid V main_v4_1 = ((fun x y => (Host.sort2 S320000 0 comparator_i32_i32_d0 x y).2) : (⟨S320000, .i32⟩ : BufTy).Contents (Elt F) → (⟨S320000, .i32⟩ : BufTy).Contents (Elt F) → (⟨S320000, .i32⟩ : BufTy).Contents (Elt F)) (mid V main_v2) (mid V main_v3) :=
  mid_writes.binary V 3 (a := main_v2) (b := main_v3) (y := main_v4_1) ((fun x y => (Host.sort2 S320000 0 comparator_i32_i32_d0 x y).2) : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem mid_main_v5 (V : Valuation τ sig (Elt F)) : mid V main_v5 = ((fun v => shapeCast S160x1x2000 v shapeCasts_S320000_S160x1x2000) : (⟨S320000, .i32⟩ : BufTy).Contents (Elt F) → (⟨S160x1x2000, .i32⟩ : BufTy).Contents (Elt F)) (mid V main_v4_0) :=
  mid_writes.reshape V 4 (x := main_v4_0) (y := main_v5) rfl (by decide +kernel) (by decide +kernel)

theorem mid_main_v1_2 (V : Valuation τ sig (Elt F)) : mid V main_v1_2 = V (Proc.devRef .tc main_v1_2) :=
  mid_writes.keep V 0 (by decide +kernel)

theorem fin_main_arg0 (V : Valuation τ sig (Elt F)) : fin V main_arg0 = V (Proc.devRef .tc main_arg0) :=
  fin_writes.keep V 0 (by decide +kernel)

theorem fin_main_v1_1 (V : Valuation τ sig (Elt F)) : fin V main_v1_1 = V (Proc.devRef .tc main_v1_1) :=
  fin_writes.keep V 0 (by decide +kernel)

theorem fin_main_v4_1 (V : Valuation τ sig (Elt F)) : fin V main_v4_1 = V (Proc.devRef .tc main_v4_1) :=
  fin_writes.keep V 0 (by decide +kernel)

theorem fin_main_v6 (V : Valuation τ sig (Elt F)) : fin V main_v6 = V (Proc.devRef .tc main_v6) :=
  fin_writes.keep V 0 (by decide +kernel)

theorem fin_main_v7 (V : Valuation τ sig (Elt F)) : fin V main_v7 = ((fun v => shapeCast S320000 v shapeCasts_S160x1x2000_S320000) : (⟨S160x1x2000, .i32⟩ : BufTy).Contents (Elt F) → (⟨S320000, .i32⟩ : BufTy).Contents (Elt F)) (fin V main_v6) :=
  fin_writes.reshape V 0 (x := main_v6) (y := main_v7) rfl (by decide +kernel) (by decide +kernel)

theorem fin_main_c (V : Valuation τ sig (Elt F)) : fin V main_c = (constantI S_ 32 0#32) :=
  fin_writes.nullary V 1 (y := main_c) (constantI S_ 32 0#32) rfl (by decide +kernel)

theorem fin_main_v8 (V : Valuation τ sig (Elt F)) : fin V main_v8 = (broadcastInDim S320000 ![] bcast_S_S320000 : (⟨S_, .i32⟩ : BufTy).Contents (Elt F) → (⟨S320000, .i32⟩ : BufTy).Contents (Elt F)) (fin V main_c) :=
  fin_writes.unary V 2 (x := main_c) (y := main_v8) (broadcastInDim S320000 ![] bcast_S_S320000 : (⟨S_, .i32⟩ : BufTy).Contents (Elt F) → (⟨S320000, .i32⟩ : BufTy).Contents (Elt F)) rfl (by decide +kernel) (by decide +kernel)

theorem fin_main_c_0 (V : Valuation τ sig (Elt F)) : fin V main_c_0 = (constantI S_ 32 0#32) :=
  fin_writes.nullary V 3 (y := main_c_0) (constantI S_ 32 0#32) rfl (by decide +kernel)

theorem fin_main_v9 (V : Valuation τ sig (Elt F)) : fin V main_v9 = (broadcastInDim S320000 ![] bcast_S_S320000 : (⟨S_, .i32⟩ : BufTy).Contents (Elt F) → (⟨S320000, .i32⟩ : BufTy).Contents (Elt F)) (fin V main_c_0) :=
  fin_writes.unary V 4 (x := main_c_0) (y := main_v9) (broadcastInDim S320000 ![] bcast_S_S320000 : (⟨S_, .i32⟩ : BufTy).Contents (Elt F) → (⟨S320000, .i32⟩ : BufTy).Contents (Elt F)) rfl (by decide +kernel) (by decide +kernel)

theorem fin_main_v10 (V : Valuation τ sig (Elt F)) : fin V main_v10 = (cmpi .slt : (⟨S320000, .i32⟩ : BufTy).Contents (Elt F) → (⟨S320000, .i32⟩ : BufTy).Contents (Elt F) → (⟨S320000, .i1⟩ : BufTy).Contents (Elt F)) (fin V main_v4_1) (fin V main_v9) :=
  fin_writes.binary V 5 (a := main_v4_1) (b := main_v9) (y := main_v10) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem fin_main_c_1 (V : Valuation τ sig (Elt F)) : fin V main_c_1 = (constantI S_ 32 320000#32) :=
  fin_writes.nullary V 6 (y := main_c_1) (constantI S_ 32 320000#32) rfl (by decide +kernel)

theorem fin_main_v11 (V : Valuation τ sig (Elt F)) : fin V main_v11 = (broadcastInDim S320000 ![] bcast_S_S320000 : (⟨S_, .i32⟩ : BufTy).Contents (Elt F) → (⟨S320000, .i32⟩ : BufTy).Contents (Elt F)) (fin V main_c_1) :=
  fin_writes.unary V 7 (x := main_c_1) (y := main_v11) (broadcastInDim S320000 ![] bcast_S_S320000 : (⟨S_, .i32⟩ : BufTy).Contents (Elt F) → (⟨S320000, .i32⟩ : BufTy).Contents (Elt F)) rfl (by decide +kernel) (by decide +kernel)

theorem fin_main_v12 (V : Valuation τ sig (Elt F)) : fin V main_v12 = (addi : (⟨S320000, .i32⟩ : BufTy).Contents (Elt F) → (⟨S320000, .i32⟩ : BufTy).Contents (Elt F) → (⟨S320000, .i32⟩ : BufTy).Contents (Elt F)) (fin V main_v4_1) (fin V main_v11) :=
  fin_writes.binary V 8 (a := main_v4_1) (b := main_v11) (y := main_v12) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v13 (V : Valuation τ sig (Elt F)) : fin V main_v13 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (fin V main_v10) (fin V main_v12) (fin V main_v4_1) :=
  fin_writes.ternary V 9 (c := main_v10) (a := main_v12) (b := main_v4_1) (y := main_v13) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_v14 (V : Valuation τ sig (Elt F)) : fin V main_v14 = (broadcastInDim S320000x1 ![0] bcast_S320000_S320000x1_0 : (⟨S320000, .i32⟩ : BufTy).Contents (Elt F) → (⟨S320000x1, .i32⟩ : BufTy).Contents (Elt F)) (fin V main_v13) :=
  fin_writes.unary V 10 (x := main_v13) (y := main_v14) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem fin_main_v15 (V : Valuation τ sig (Elt F)) : fin V main_v15 = ((fun x i u => Host.scatter scatter_S320000_S320000x1_S320000_n_0_0_1 (fun _ b => b) x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) (fin V main_v8) (fin V main_v14) (fin V main_v7) :=
  fin_writes.ternary V 11 (c := main_v8) (a := main_v14) (b := main_v7) (y := main_v15) ((fun x i u => Host.scatter scatter_S320000_S320000x1_S320000_n_0_0_1 (fun _ b => b) x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_c_2 (V : Valuation τ sig (Elt F)) : fin V main_c_2 = (constantI S_ 32 0#32) :=
  fin_writes.nullary V 12 (y := main_c_2) (constantI S_ 32 0#32) rfl (by decide +kernel)

theorem fin_main_v16 (V : Valuation τ sig (Elt F)) : fin V main_v16 = (broadcastInDim S320000 ![] bcast_S_S320000 : (⟨S_, .i32⟩ : BufTy).Contents (Elt F) → (⟨S320000, .i32⟩ : BufTy).Contents (Elt F)) (fin V main_c_2) :=
  fin_writes.unary V 13 (x := main_c_2) (y := main_v16) (broadcastInDim S320000 ![] bcast_S_S320000 : (⟨S_, .i32⟩ : BufTy).Contents (Elt F) → (⟨S320000, .i32⟩ : BufTy).Contents (Elt F)) rfl (by decide +kernel) (by decide +kernel)

theorem fin_main_c_3 (V : Valuation τ sig (Elt F)) : fin V main_c_3 = (constantI S_ 32 0#32) :=
  fin_writes.nullary V 14 (y := main_c_3) (constantI S_ 32 0#32) rfl (by decide +kernel)

theorem fin_main_v17 (V : Valuation τ sig (Elt F)) : fin V main_v17 = (broadcastInDim S320000 ![] bcast_S_S320000 : (⟨S_, .i32⟩ : BufTy).Contents (Elt F) → (⟨S320000, .i32⟩ : BufTy).Contents (Elt F)) (fin V main_c_3) :=
  fin_writes.unary V 15 (x := main_c_3) (y := main_v17) (broadcastInDim S320000 ![] bcast_S_S320000 : (⟨S_, .i32⟩ : BufTy).Contents (Elt F) → (⟨S320000, .i32⟩ : BufTy).Contents (Elt F)) rfl (by decide +kernel) (by decide +kernel)

theorem fin_main_v18 (V : Valuation τ sig (Elt F)) : fin V main_v18 = (cmpi .slt : (⟨S320000, .i32⟩ : BufTy).Contents (Elt F) → (⟨S320000, .i32⟩ : BufTy).Contents (Elt F) → (⟨S320000, .i1⟩ : BufTy).Contents (Elt F)) (fin V main_v7) (fin V main_v17) :=
  fin_writes.binary V 16 (a := main_v7) (b := main_v17) (y := main_v18) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem fin_main_c_4 (V : Valuation τ sig (Elt F)) : fin V main_c_4 = (constantI S_ 32 320000#32) :=
  fin_writes.nullary V 17 (y := main_c_4) (constantI S_ 32 320000#32) rfl (by decide +kernel)

theorem fin_main_v19 (V : Valuation τ sig (Elt F)) : fin V main_v19 = (broadcastInDim S320000 ![] bcast_S_S320000 : (⟨S_, .i32⟩ : BufTy).Contents (Elt F) → (⟨S320000, .i32⟩ : BufTy).Contents (Elt F)) (fin V main_c_4) :=
  fin_writes.unary V 18 (x := main_c_4) (y := main_v19) (broadcastInDim S320000 ![] bcast_S_S320000 : (⟨S_, .i32⟩ : BufTy).Contents (Elt F) → (⟨S320000, .i32⟩ : BufTy).Contents (Elt F)) rfl (by decide +kernel) (by decide +kernel)

theorem fin_main_v20 (V : Valuation τ sig (Elt F)) : fin V main_v20 = (addi : (⟨S320000, .i32⟩ : BufTy).Contents (Elt F) → (⟨S320000, .i32⟩ : BufTy).Contents (Elt F) → (⟨S320000, .i32⟩ : BufTy).Contents (Elt F)) (fin V main_v7) (fin V main_v19) :=
  fin_writes.binary V 19 (a := main_v7) (b := main_v19) (y := main_v20) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v21 (V : Valuation τ sig (Elt F)) : fin V main_v21 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (fin V main_v18) (fin V main_v20) (fin V main_v7) :=
  fin_writes.ternary V 20 (c := main_v18) (a := main_v20) (b := main_v7) (y := main_v21) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_v22 (V : Valuation τ sig (Elt F)) : fin V main_v22 = (broadcastInDim S320000x1 ![0] bcast_S320000_S320000x1_0 : (⟨S320000, .i32⟩ : BufTy).Contents (Elt F) → (⟨S320000x1, .i32⟩ : BufTy).Contents (Elt F)) (fin V main_v21) :=
  fin_writes.unary V 21 (x := main_v21) (y := main_v22) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem fin_main_c_5 (V : Valuation τ sig (Elt F)) : fin V main_c_5 = (constantI S_ 32 1#32) :=
  fin_writes.nullary V 22 (y := main_c_5) (constantI S_ 32 1#32) rfl (by decide +kernel)

theorem fin_main_v23 (V : Valuation τ sig (Elt F)) : fin V main_v23 = (broadcastInDim S320000 ![] bcast_S_S320000 : (⟨S_, .i32⟩ : BufTy).Contents (Elt F) → (⟨S320000, .i32⟩ : BufTy).Contents (Elt F)) (fin V main_c_5) :=
  fin_writes.unary V 23 (x := main_c_5) (y := main_v23) (broadcastInDim S320000 ![] bcast_S_S320000 : (⟨S_, .i32⟩ : BufTy).Contents (Elt F) → (⟨S320000, .i32⟩ : BufTy).Contents (Elt F)) rfl (by decide +kernel) (by decide +kernel)

theorem fin_main_v24 (V : Valuation τ sig (Elt F)) : fin V main_v24 = ((fun x i u => Host.scatter scatter_S320000_S320000x1_S320000_n_0_0_1 IntOp.addi x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) (fin V main_v16) (fin V main_v22) (fin V main_v23) :=
  fin_writes.ternary V 24 (c := main_v16) (a := main_v22) (b := main_v23) (y := main_v24) ((fun x i u => Host.scatter scatter_S320000_S320000x1_S320000_n_0_0_1 IntOp.addi x i u) : (⟨S320000, .i32⟩ : BufTy).Contents (Elt F) → (⟨S320000x1, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_c_6 (V : Valuation τ sig (Elt F)) : fin V main_c_6 = (constantI S_ 32 1#32) :=
  fin_writes.nullary V 25 (y := main_c_6) (constantI S_ 32 1#32) rfl (by decide +kernel)

theorem fin_main_v25 (V : Valuation τ sig (Elt F)) : fin V main_v25 = (broadcastInDim S320000 ![] bcast_S_S320000 : (⟨S_, .i32⟩ : BufTy).Contents (Elt F) → (⟨S320000, .i32⟩ : BufTy).Contents (Elt F)) (fin V main_c_6) :=
  fin_writes.unary V 26 (x := main_c_6) (y := main_v25) (broadcastInDim S320000 ![] bcast_S_S320000 : (⟨S_, .i32⟩ : BufTy).Contents (Elt F) → (⟨S320000, .i32⟩ : BufTy).Contents (Elt F)) rfl (by decide +kernel) (by decide +kernel)

theorem fin_main_v26 (V : Valuation τ sig (Elt F)) : fin V main_v26 = (maxsi : (⟨S320000, .i32⟩ : BufTy).Contents (Elt F) → (⟨S320000, .i32⟩ : BufTy).Contents (Elt F) → (⟨S320000, .i32⟩ : BufTy).Contents (Elt F)) (fin V main_v24) (fin V main_v25) :=
  fin_writes.binary V 27 (a := main_v24) (b := main_v25) (y := main_v26) (maxsi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v27 (V : Valuation τ sig (Elt F)) : fin V main_v27 = (sitofp .f32 : (⟨S320000, .i32⟩ : BufTy).Contents (Elt F) → (⟨S320000, .f32⟩ : BufTy).Contents (Elt F)) (fin V main_v26) :=
  fin_writes.unary V 28 (x := main_v26) (y := main_v27) (sitofp .f32 : (⟨S320000, .i32⟩ : BufTy).Contents (Elt F) → (⟨S320000, .f32⟩ : BufTy).Contents (Elt F)) rfl (by decide +kernel) (by decide +kernel)

theorem fin_main_v28 (V : Valuation τ sig (Elt F)) : fin V main_v28 = (sitofp .f32 : (⟨S320000x4, .i32⟩ : BufTy).Contents (Elt F) → (⟨S320000x4, .f32⟩ : BufTy).Contents (Elt F)) (fin V main_v1_1) :=
  fin_writes.unary V 29 (x := main_v1_1) (y := main_v28) (sitofp .f32 : (⟨S320000x4, .i32⟩ : BufTy).Contents (Elt F) → (⟨S320000x4, .f32⟩ : BufTy).Contents (Elt F)) rfl (by decide +kernel) (by decide +kernel)

theorem fin_main_c_7 (V : Valuation τ sig (Elt F)) : fin V main_c_7 = (constantI S_ 32 0#32) :=
  fin_writes.nullary V 30 (y := main_c_7) (constantI S_ 32 0#32) rfl (by decide +kernel)

theorem fin_main_v29 (V : Valuation τ sig (Elt F)) : fin V main_v29 = (broadcastInDim S320000 ![] bcast_S_S320000 : (⟨S_, .i32⟩ : BufTy).Contents (Elt F) → (⟨S320000, .i32⟩ : BufTy).Contents (Elt F)) (fin V main_c_7) :=
  fin_writes.unary V 31 (x := main_c_7) (y := main_v29) (broadcastInDim S320000 ![] bcast_S_S320000 : (⟨S_, .i32⟩ : BufTy).Contents (Elt F) → (⟨S320000, .i32⟩ : BufTy).Contents (Elt F)) rfl (by decide +kernel) (by decide +kernel)

theorem fin_main_v30 (V : Valuation τ sig (Elt F)) : fin V main_v30 = (cmpi .slt : (⟨S320000, .i32⟩ : BufTy).Contents (Elt F) → (⟨S320000, .i32⟩ : BufTy).Contents (Elt F) → (⟨S320000, .i1⟩ : BufTy).Contents (Elt F)) (fin V main_v4_1) (fin V main_v29) :=
  fin_writes.binary V 32 (a := main_v4_1) (b := main_v29) (y := main_v30) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem fin_main_c_8 (V : Valuation τ sig (Elt F)) : fin V main_c_8 = (constantI S_ 32 320000#32) :=
  fin_writes.nullary V 33 (y := main_c_8) (constantI S_ 32 320000#32) rfl (by decide +kernel)

theorem fin_main_v31 (V : Valuation τ sig (Elt F)) : fin V main_v31 = (broadcastInDim S320000 ![] bcast_S_S320000 : (⟨S_, .i32⟩ : BufTy).Contents (Elt F) → (⟨S320000, .i32⟩ : BufTy).Contents (Elt F)) (fin V main_c_8) :=
  fin_writes.unary V 34 (x := main_c_8) (y := main_v31) (broadcastInDim S320000 ![] bcast_S_S320000 : (⟨S_, .i32⟩ : BufTy).Contents (Elt F) → (⟨S320000, .i32⟩ : BufTy).Contents (Elt F)) rfl (by decide +kernel) (by decide +kernel)

theorem fin_main_v32 (V : Valuation τ sig (Elt F)) : fin V main_v32 = (addi : (⟨S320000, .i32⟩ : BufTy).Contents (Elt F) → (⟨S320000, .i32⟩ : BufTy).Contents (Elt F) → (⟨S320000, .i32⟩ : BufTy).Contents (Elt F)) (fin V main_v4_1) (fin V main_v31) :=
  fin_writes.binary V 35 (a := main_v4_1) (b := main_v31) (y := main_v32) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v33 (V : Valuation τ sig (Elt F)) : fin V main_v33 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (fin V main_v30) (fin V main_v32) (fin V main_v4_1) :=
  fin_writes.ternary V 36 (c := main_v30) (a := main_v32) (b := main_v4_1) (y := main_v33) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_v34 (V : Valuation τ sig (Elt F)) : fin V main_v34 = (broadcastInDim S320000x1 ![0] bcast_S320000_S320000x1_0 : (⟨S320000, .i32⟩ : BufTy).Contents (Elt F) → (⟨S320000x1, .i32⟩ : BufTy).Contents (Elt F)) (fin V main_v33) :=
  fin_writes.unary V 37 (x := main_v33) (y := main_v34) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem fin_main_v35 (V : Valuation τ sig (Elt F)) : fin V main_v35 = ((fun x i => Host.gather gather_S320000x4_S320000x1_S320000x4_1_0_n_n_0_1_14 x i) : (⟨S320000x4, .f32⟩ : BufTy).Contents (Elt F) → (⟨S320000x1, .i32⟩ : BufTy).Contents (Elt F) → (⟨S320000x4, .f32⟩ : BufTy).Contents (Elt F)) (fin V main_v28) (fin V main_v34) :=
  fin_writes.binary V 38 (a := main_v28) (b := main_v34) (y := main_v35) ((fun x i => Host.gather gather_S320000x4_S320000x1_S320000x4_1_0_n_n_0_1_14 x i) : (⟨S320000x4, .f32⟩ : BufTy).Contents (Elt F) → (⟨S320000x1, .i32⟩ : BufTy).Contents (Elt F) → (⟨S320000x4, .f32⟩ : BufTy).Contents (Elt F)) rfl (by decide +kernel) (by decide +kernel) (by decide +kernel)

theorem fin_main_cst (V : Valuation τ sig (Elt F)) : fin V main_cst = (constant S_ .f32 0x00000000#32) :=
  fin_writes.nullary V 39 (y := main_cst) (constant S_ .f32 0x00000000#32) rfl (by decide +kernel)

theorem fin_main_v36 (V : Valuation τ sig (Elt F)) : fin V main_v36 = (broadcastInDim S320000x4 ![] bcast_S_S320000x4 : (⟨S_, .f32⟩ : BufTy).Contents (Elt F) → (⟨S320000x4, .f32⟩ : BufTy).Contents (Elt F)) (fin V main_cst) :=
  fin_writes.unary V 40 (x := main_cst) (y := main_v36) (broadcastInDim S320000x4 ![] bcast_S_S320000x4 : (⟨S_, .f32⟩ : BufTy).Contents (Elt F) → (⟨S320000x4, .f32⟩ : BufTy).Contents (Elt F)) rfl (by decide +kernel) (by decide +kernel)

theorem fin_main_c_9 (V : Valuation τ sig (Elt F)) : fin V main_c_9 = (constantI S_ 32 0#32) :=
  fin_writes.nullary V 41 (y := main_c_9) (constantI S_ 32 0#32) rfl (by decide +kernel)

theorem fin_main_v37 (V : Valuation τ sig (Elt F)) : fin V main_v37 = (broadcastInDim S320000 ![] bcast_S_S320000 : (⟨S_, .i32⟩ : BufTy).Contents (Elt F) → (⟨S320000, .i32⟩ : BufTy).Contents (Elt F)) (fin V main_c_9) :=
  fin_writes.unary V 42 (x := main_c_9) (y := main_v37) (broadcastInDim S320000 ![] bcast_S_S320000 : (⟨S_, .i32⟩ : BufTy).Contents (Elt F) → (⟨S320000, .i32⟩ : BufTy).Contents (Elt F)) rfl (by decide +kernel) (by decide +kernel)

theorem fin_main_v38 (V : Valuation τ sig (Elt F)) : fin V main_v38 = (cmpi .slt : (⟨S320000, .i32⟩ : BufTy).Contents (Elt F) → (⟨S320000, .i32⟩ : BufTy).Contents (Elt F) → (⟨S320000, .i1⟩ : BufTy).Contents (Elt F)) (fin V main_v7) (fin V main_v37) :=
  fin_writes.binary V 43 (a := main_v7) (b := main_v37) (y := main_v38) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem fin_main_c_10 (V : Valuation τ sig (Elt F)) : fin V main_c_10 = (constantI S_ 32 320000#32) :=
  fin_writes.nullary V 44 (y := main_c_10) (constantI S_ 32 320000#32) rfl (by decide +kernel)

theorem fin_main_v39 (V : Valuation τ sig (Elt F)) : fin V main_v39 = (broadcastInDim S320000 ![] bcast_S_S320000 : (⟨S_, .i32⟩ : BufTy).Contents (Elt F) → (⟨S320000, .i32⟩ : BufTy).Contents (Elt F)) (fin V main_c_10) :=
  fin_writes.unary V 45 (x := main_c_10) (y := main_v39) (broadcastInDim S320000 ![] bcast_S_S320000 : (⟨S_, .i32⟩ : BufTy).Contents (Elt F) → (⟨S320000, .i32⟩ : BufTy).Contents (Elt F)) rfl (by decide +kernel) (by decide +kernel)

theorem fin_main_v40 (V : Valuation τ sig (Elt F)) : fin V main_v40 = (addi : (⟨S320000, .i32⟩ : BufTy).Contents (Elt F) → (⟨S320000, .i32⟩ : BufTy).Contents (Elt F) → (⟨S320000, .i32⟩ : BufTy).Contents (Elt F)) (fin V main_v7) (fin V main_v39) :=
  fin_writes.binary V 46 (a := main_v7) (b := main_v39) (y := main_v40) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v41 (V : Valuation τ sig (Elt F)) : fin V main_v41 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (fin V main_v38) (fin V main_v40) (fin V main_v7) :=
  fin_writes.ternary V 47 (c := main_v38) (a := main_v40) (b := main_v7) (y := main_v41) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_v42 (V : Valuation τ sig (Elt F)) : fin V main_v42 = (broadcastInDim S320000x1 ![0] bcast_S320000_S320000x1_0 : (⟨S320000, .i32⟩ : BufTy).Contents (Elt F) → (⟨S320000x1, .i32⟩ : BufTy).Contents (Elt F)) (fin V main_v41) :=
  fin_writes.unary V 48 (x := main_v41) (y := main_v42) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem fin_main_v43 (V : Valuation τ sig (Elt F)) : fin V main_v43 = ((fun x i u => Host.scatterAdd scatter_S320000x4_S320000x1_S320000x4_1_0_0_1 x i u) : (⟨S320000x4, .f32⟩ : BufTy).Contents (Elt F) → (⟨S320000x1, .i32⟩ : BufTy).Contents (Elt F) → (⟨S320000x4, .f32⟩ : BufTy).Contents (Elt F) → (⟨S320000x4, .f32⟩ : BufTy).Contents (Elt F)) (fin V main_v36) (fin V main_v42) (fin V main_v35) :=
  fin_writes.ternary V 49 (c := main_v36) (a := main_v42) (b := main_v35) (y := main_v43) ((fun x i u => Host.scatterAdd scatter_S320000x4_S320000x1_S320000x4_1_0_0_1 x i u) : (⟨S320000x4, .f32⟩ : BufTy).Contents (Elt F) → (⟨S320000x1, .i32⟩ : BufTy).Contents (Elt F) → (⟨S320000x4, .f32⟩ : BufTy).Contents (Elt F) → (⟨S320000x4, .f32⟩ : BufTy).Contents (Elt F)) rfl (by decide +kernel) (by decide +kernel) (by decide +kernel) (by decide +kernel)

theorem fin_main_v44 (V : Valuation τ sig (Elt F)) : fin V main_v44 = (broadcastInDim S320000x1 ![0] bcast_S320000_S320000x1_0 : (⟨S320000, .f32⟩ : BufTy).Contents (Elt F) → (⟨S320000x1, .f32⟩ : BufTy).Contents (Elt F)) (fin V main_v27) :=
  fin_writes.unary V 50 (x := main_v27) (y := main_v44) (broadcastInDim S320000x1 ![0] bcast_S320000_S320000x1_0 : (⟨S320000, .f32⟩ : BufTy).Contents (Elt F) → (⟨S320000x1, .f32⟩ : BufTy).Contents (Elt F)) rfl (by decide +kernel) (by decide +kernel)

theorem fin_main_v45 (V : Valuation τ sig (Elt F)) : fin V main_v45 = (broadcastInDim S320000x4 ![0, 1] bcast_S320000x1_S320000x4_0_1 : (⟨S320000x1, .f32⟩ : BufTy).Contents (Elt F) → (⟨S320000x4, .f32⟩ : BufTy).Contents (Elt F)) (fin V main_v44) :=
  fin_writes.unary V 51 (x := main_v44) (y := main_v45) (broadcastInDim S320000x4 ![0, 1] bcast_S320000x1_S320000x4_0_1 : (⟨S320000x1, .f32⟩ : BufTy).Contents (Elt F) → (⟨S320000x4, .f32⟩ : BufTy).Contents (Elt F)) rfl (by decide +kernel) (by decide +kernel)

theorem fin_main_v46 (V : Valuation τ sig (Elt F)) : fin V main_v46 = (Host.divf : (⟨S320000x4, .f32⟩ : BufTy).Contents (Elt F) → (⟨S320000x4, .f32⟩ : BufTy).Contents (Elt F) → (⟨S320000x4, .f32⟩ : BufTy).Contents (Elt F)) (fin V main_v43) (fin V main_v45) :=
  fin_writes.binary V 52 (a := main_v43) (b := main_v45) (y := main_v46) (Host.divf : (⟨S320000x4, .f32⟩ : BufTy).Contents (Elt F) → (⟨S320000x4, .f32⟩ : BufTy).Contents (Elt F) → (⟨S320000x4, .f32⟩ : BufTy).Contents (Elt F)) rfl (by decide +kernel) (by decide +kernel) (by decide +kernel)

theorem fin_main_v47 (V : Valuation τ sig (Elt F)) : fin V main_v47 = (fptosi 32 : (⟨S320000x4, .f32⟩ : BufTy).Contents (Elt F) → (⟨S320000x4, .i32⟩ : BufTy).Contents (Elt F)) (fin V main_v46) :=
  fin_writes.unary V 53 (x := main_v46) (y := main_v47) (fptosi 32 : (⟨S320000x4, .f32⟩ : BufTy).Contents (Elt F) → (⟨S320000x4, .i32⟩ : BufTy).Contents (Elt F)) rfl (by decide +kernel) (by decide +kernel)

theorem fin_main_cst_11 (V : Valuation τ sig (Elt F)) : fin V main_cst_11 = (constant S_ .f32 0x00000000#32) :=
  fin_writes.nullary V 54 (y := main_cst_11) (constant S_ .f32 0x00000000#32) rfl (by decide +kernel)

theorem fin_main_v48 (V : Valuation τ sig (Elt F)) : fin V main_v48 = (broadcastInDim S320000x128 ![] bcast_S_S320000x128 : (⟨S_, .f32⟩ : BufTy).Contents (Elt F) → (⟨S320000x128, .f32⟩ : BufTy).Contents (Elt F)) (fin V main_cst_11) :=
  fin_writes.unary V 55 (x := main_cst_11) (y := main_v48) (broadcastInDim S320000x128 ![] bcast_S_S320000x128 : (⟨S_, .f32⟩ : BufTy).Contents (Elt F) → (⟨S320000x128, .f32⟩ : BufTy).Contents (Elt F)) rfl (by decide +kernel) (by decide +kernel)

theorem fin_main_c_12 (V : Valuation τ sig (Elt F)) : fin V main_c_12 = (constantI S_ 32 0#32) :=
  fin_writes.nullary V 56 (y := main_c_12) (constantI S_ 32 0#32) rfl (by decide +kernel)

theorem fin_main_v49 (V : Valuation τ sig (Elt F)) : fin V main_v49 = (broadcastInDim S320000 ![] bcast_S_S320000 : (⟨S_, .i32⟩ : BufTy).Contents (Elt F) → (⟨S320000, .i32⟩ : BufTy).Contents (Elt F)) (fin V main_c_12) :=
  fin_writes.unary V 57 (x := main_c_12) (y := main_v49) (broadcastInDim S320000 ![] bcast_S_S320000 : (⟨S_, .i32⟩ : BufTy).Contents (Elt F) → (⟨S320000, .i32⟩ : BufTy).Contents (Elt F)) rfl (by decide +kernel) (by decide +kernel)

theorem fin_main_v50 (V : Valuation τ sig (Elt F)) : fin V main_v50 = (cmpi .slt : (⟨S320000, .i32⟩ : BufTy).Contents (Elt F) → (⟨S320000, .i32⟩ : BufTy).Contents (Elt F) → (⟨S320000, .i1⟩ : BufTy).Contents (Elt F)) (fin V main_v4_1) (fin V main_v49) :=
  fin_writes.binary V 58 (a := main_v4_1) (b := main_v49) (y := main_v50) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem fin_main_c_13 (V : Valuation τ sig (Elt F)) : fin V main_c_13 = (constantI S_ 32 320000#32) :=
  fin_writes.nullary V 59 (y := main_c_13) (constantI S_ 32 320000#32) rfl (by decide +kernel)

theorem fin_main_v51 (V : Valuation τ sig (Elt F)) : fin V main_v51 = (broadcastInDim S320000 ![] bcast_S_S320000 : (⟨S_, .i32⟩ : BufTy).Contents (Elt F) → (⟨S320000, .i32⟩ : BufTy).Contents (Elt F)) (fin V main_c_13) :=
  fin_writes.unary V 60 (x := main_c_13) (y := main_v51) (broadcastInDim S320000 ![] bcast_S_S320000 : (⟨S_, .i32⟩ : BufTy).Contents (Elt F) → (⟨S320000, .i32⟩ : BufTy).Contents (Elt F)) rfl (by decide +kernel) (by decide +kernel)

theorem fin_main_v52 (V : Valuation τ sig (Elt F)) : fin V main_v52 = (addi : (⟨S320000, .i32⟩ : BufTy).Contents (Elt F) → (⟨S320000, .i32⟩ : BufTy).Contents (Elt F) → (⟨S320000, .i32⟩ : BufTy).Contents (Elt F)) (fin V main_v4_1) (fin V main_v51) :=
  fin_writes.binary V 61 (a := main_v4_1) (b := main_v51) (y := main_v52) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v53 (V : Valuation τ sig (Elt F)) : fin V main_v53 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (fin V main_v50) (fin V main_v52) (fin V main_v4_1) :=
  fin_writes.ternary V 62 (c := main_v50) (a := main_v52) (b := main_v4_1) (y := main_v53) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_v54 (V : Valuation τ sig (Elt F)) : fin V main_v54 = (broadcastInDim S320000x1 ![0] bcast_S320000_S320000x1_0 : (⟨S320000, .i32⟩ : BufTy).Contents (Elt F) → (⟨S320000x1, .i32⟩ : BufTy).Contents (Elt F)) (fin V main_v53) :=
  fin_writes.unary V 63 (x := main_v53) (y := main_v54) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem fin_main_v55 (V : Valuation τ sig (Elt F)) : fin V main_v55 = ((fun x i => Host.gather gather_S320000x128_S320000x1_S320000x128_1_0_n_n_0_1_1128 x i) : (⟨S320000x128, .f32⟩ : BufTy).Contents (Elt F) → (⟨S320000x1, .i32⟩ : BufTy).Contents (Elt F) → (⟨S320000x128, .f32⟩ : BufTy).Contents (Elt F)) (fin V main_arg0) (fin V main_v54) :=
  fin_writes.binary V 64 (a := main_arg0) (b := main_v54) (y := main_v55) ((fun x i => Host.gather gather_S320000x128_S320000x1_S320000x128_1_0_n_n_0_1_1128 x i) : (⟨S320000x128, .f32⟩ : BufTy).Contents (Elt F) → (⟨S320000x1, .i32⟩ : BufTy).Contents (Elt F) → (⟨S320000x128, .f32⟩ : BufTy).Contents (Elt F)) rfl (by decide +kernel) (by decide +kernel) (by decide +kernel)

theorem fin_main_c_14 (V : Valuation τ sig (Elt F)) : fin V main_c_14 = (constantI S_ 32 0#32) :=
  fin_writes.nullary V 65 (y := main_c_14) (constantI S_ 32 0#32) rfl (by decide +kernel)

theorem fin_main_v56 (V : Valuation τ sig (Elt F)) : fin V main_v56 = (broadcastInDim S320000 ![] bcast_S_S320000 : (⟨S_, .i32⟩ : BufTy).Contents (Elt F) → (⟨S320000, .i32⟩ : BufTy).Contents (Elt F)) (fin V main_c_14) :=
  fin_writes.unary V 66 (x := main_c_14) (y := main_v56) (broadcastInDim S320000 ![] bcast_S_S320000 : (⟨S_, .i32⟩ : BufTy).Contents (Elt F) → (⟨S320000, .i32⟩ : BufTy).Contents (Elt F)) rfl (by decide +kernel) (by decide +kernel)

theorem fin_main_v57 (V : Valuation τ sig (Elt F)) : fin V main_v57 = (cmpi .slt : (⟨S320000, .i32⟩ : BufTy).Contents (Elt F) → (⟨S320000, .i32⟩ : BufTy).Contents (Elt F) → (⟨S320000, .i1⟩ : BufTy).Contents (Elt F)) (fin V main_v7) (fin V main_v56) :=
  fin_writes.binary V 67 (a := main_v7) (b := main_v56) (y := main_v57) (cmpi .slt : (⟨S320000, .i32⟩ : BufTy).Contents (Elt F) → (⟨S320000, .i32⟩ : BufTy).Contents (Elt F) → (⟨S320000, .i1⟩ : BufTy).Contents (Elt F)) rfl (by decide +kernel) (by decide +kernel) (by decide +kernel)

theorem fin_main_c_15 (V : Valuation τ sig (Elt F)) : fin V main_c_15 = (constantI S_ 32 320000#32) :=
  fin_writes.nullary V 68 (y := main_c_15) (constantI S_ 32 320000#32) rfl (by decide +kernel)

theorem fin_main_v58 (V : Valuation τ sig (Elt F)) : fin V main_v58 = (broadcastInDim S320000 ![] bcast_S_S320000 : (⟨S_, .i32⟩ : BufTy).Contents (Elt F) → (⟨S320000, .i32⟩ : BufTy).Contents (Elt F)) (fin V main_c_15) :=
  fin_writes.unary V 69 (x := main_c_15) (y := main_v58) (broadcastInDim S320000 ![] bcast_S_S320000 : (⟨S_, .i32⟩ : BufTy).Contents (Elt F) → (⟨S320000, .i32⟩ : BufTy).Contents (Elt F)) rfl (by decide +kernel) (by decide +kernel)

theorem fin_main_v59 (V : Valuation τ sig (Elt F)) : fin V main_v59 = (addi : (⟨S320000, .i32⟩ : BufTy).Contents (Elt F) → (⟨S320000, .i32⟩ : BufTy).Contents (Elt F) → (⟨S320000, .i32⟩ : BufTy).Contents (Elt F)) (fin V main_v7) (fin V main_v58) :=
  fin_writes.binary V 70 (a := main_v7) (b := main_v58) (y := main_v59) (addi : (⟨S320000, .i32⟩ : BufTy).Contents (Elt F) → (⟨S320000, .i32⟩ : BufTy).Contents (Elt F) → (⟨S320000, .i32⟩ : BufTy).Contents (Elt F)) rfl (by decide +kernel) (by decide +kernel) (by decide +kernel)

theorem fin_main_v60 (V : Valuation τ sig (Elt F)) : fin V main_v60 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (fin V main_v57) (fin V main_v59) (fin V main_v7) :=
  fin_writes.ternary V 71 (c := main_v57) (a := main_v59) (b := main_v7) (y := main_v60) (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) rfl (by decide +kernel) (by decide +kernel) (by decide +kernel) (by decide +kernel)

theorem fin_main_v61 (V : Valuation τ sig (Elt F)) : fin V main_v61 = (broadcastInDim S320000x1 ![0] bcast_S320000_S320000x1_0 : (⟨S320000, .i32⟩ : BufTy).Contents (Elt F) → (⟨S320000x1, .i32⟩ : BufTy).Contents (Elt F)) (fin V main_v60) :=
  fin_writes.unary V 72 (x := main_v60) (y := main_v61) (broadcastInDim S320000x1 ![0] bcast_S320000_S320000x1_0 : (⟨S320000, .i32⟩ : BufTy).Contents (Elt F) → (⟨S320000x1, .i32⟩ : BufTy).Contents (Elt F)) rfl (by decide +kernel) (by decide +kernel)

theorem fin_main_v62 (V : Valuation τ sig (Elt F)) : fin V main_v62 = ((fun x i u => Host.scatterAdd scatter_S320000x128_S320000x1_S320000x128_1_0_0_1 x i u) : (⟨S320000x128, .f32⟩ : BufTy).Contents (Elt F) → (⟨S320000x1, .i32⟩ : BufTy).Contents (Elt F) → (⟨S320000x128, .f32⟩ : BufTy).Contents (Elt F) → (⟨S320000x128, .f32⟩ : BufTy).Contents (Elt F)) (fin V main_v48) (fin V main_v61) (fin V main_v55) :=
  fin_writes.ternary V 73 (c := main_v48) (a := main_v61) (b := main_v55) (y := main_v62) ((fun x i u => Host.scatterAdd scatter_S320000x128_S320000x1_S320000x128_1_0_0_1 x i u) : (⟨S320000x128, .f32⟩ : BufTy).Contents (Elt F) → (⟨S320000x1, .i32⟩ : BufTy).Contents (Elt F) → (⟨S320000x128, .f32⟩ : BufTy).Contents (Elt F) → (⟨S320000x128, .f32⟩ : BufTy).Contents (Elt F)) rfl (by decide +kernel) (by decide +kernel) (by decide +kernel) (by decide +kernel)

theorem fin_main_v63 (V : Valuation τ sig (Elt F)) : fin V main_v63 = (broadcastInDim S320000x1 ![0] bcast_S320000_S320000x1_0 : (⟨S320000, .f32⟩ : BufTy).Contents (Elt F) → (⟨S320000x1, .f32⟩ : BufTy).Contents (Elt F)) (fin V main_v27) :=
  fin_writes.unary V 74 (x := main_v27) (y := main_v63) (broadcastInDim S320000x1 ![0] bcast_S320000_S320000x1_0 : (⟨S320000, .f32⟩ : BufTy).Contents (Elt F) → (⟨S320000x1, .f32⟩ : BufTy).Contents (Elt F)) rfl (by decide +kernel) (by decide +kernel)

theorem fin_main_v64 (V : Valuation τ sig (Elt F)) : fin V main_v64 = (broadcastInDim S320000x128 ![0, 1] bcast_S320000x1_S320000x128_0_1 : (⟨S320000x1, .f32⟩ : BufTy).Contents (Elt F) → (⟨S320000x128, .f32⟩ : BufTy).Contents (Elt F)) (fin V main_v63) :=
  fin_writes.unary V 75 (x := main_v63) (y := main_v64) (broadcastInDim S320000x128 ![0, 1] bcast_S320000x1_S320000x128_0_1 : (⟨S320000x1, .f32⟩ : BufTy).Contents (Elt F) → (⟨S320000x128, .f32⟩ : BufTy).Contents (Elt F)) rfl (by decide +kernel) (by decide +kernel)

theorem fin_main_v65 (V : Valuation τ sig (Elt F)) : fin V main_v65 = (Host.divf : (⟨S320000x128, .f32⟩ : BufTy).Contents (Elt F) → (⟨S320000x128, .f32⟩ : BufTy).Contents (Elt F) → (⟨S320000x128, .f32⟩ : BufTy).Contents (Elt F)) (fin V main_v62) (fin V main_v64) :=
  fin_writes.binary V 76 (a := main_v62) (b := main_v64) (y := main_v65) (Host.divf : (⟨S320000x128, .f32⟩ : BufTy).Contents (Elt F) → (⟨S320000x128, .f32⟩ : BufTy).Contents (Elt F) → (⟨S320000x128, .f32⟩ : BufTy).Contents (Elt F)) rfl (by decide +kernel) (by decide +kernel) (by decide +kernel)

end Cert.KernelIdeal.Hand
-- ==== Proof.Value.Host.lean ====
module

public import proofs.«01_k».proof.Proof.Value.Words
public import Idealize.ShloMosaic.PureOps.Ideal
public import Idealize.ShloMosaic.PureOps.Ideal.Laws
public import Idealize.ShloMosaic.Lib.IdealHost

/-! # The host's sort, scatters and gathers, read at an entry

Every statement is at any extent. Index words are read signed. -/

@[expose] public section

set_option maxRecDepth 16384

noncomputable section

namespace Cert.Words

open Idealize.ShloMosaic hiding ix0 ix1 ix2 ix3
open Idealize.ShloMosaic.ValueIdx Idealize.ShloMosaic.Routing
open Finset

/-! ## Sorting two lists together -/

section Pair
variable {n : ℕ} {α β : Type} (cmp : α × β → α × β → BitVec 1) (x : (shape1 n).Idx → α) (y : (shape1 n).Idx → β)

/-- The position that the sort moves to position `j`. -/
def source (j : Fin n) : Fin n :=
  sortedFrom (fun k k' => cmp (x (ix1 k), y (ix1 k)) (x (ix1 k'), y (ix1 k')) == 1#1) j

/-- The sort moves every position to exactly one place. -/
theorem source_bijective : Function.Bijective (source cmp x y) := ⟨sortedFrom_injective _, sortedFrom_surjective _⟩

/-- The sort as a permutation of the positions. -/
def sourceEquiv : Fin n ≃ Fin n := Equiv.ofBijective _ (source_bijective cmp x y)

theorem sourceEquiv_apply (j : Fin n) : sourceEquiv cmp x y j = source cmp x y j := rfl

theorem along_ix1 (j k : Fin n) : Shape.Idx.along (s := shape1 n) (ix1 j) (0 : Fin 1) k = ix1 k := by
  funext a
  match a with
  | ⟨0, _⟩ => rfl

/-- Both lists after the sort hold at position `j` their entries from position `source j`. -/
theorem sort2_at (j : Fin n) :
    (Host.sort2 (shape1 n) 0 cmp x y).1 (ix1 j) = x (ix1 (source cmp x y j))
      ∧ (Host.sort2 (shape1 n) 0 cmp x y).2 (ix1 j) = y (ix1 (source cmp x y j)) := by
  unfold Host.sort2
  rw [dif_pos (show 0 < (shape1 n).rank from Nat.one_pos)]
  have ex : ∀ k : Fin n, x (Shape.Idx.along (s := shape1 n) (ix1 j) (0 : Fin 1) k) = x (ix1 k) := fun k => congrArg x (along_ix1 j k)
  have ey : ∀ k : Fin n, y (Shape.Idx.along (s := shape1 n) (ix1 j) (0 : Fin 1) k) = y (ix1 k) := fun k => congrArg y (along_ix1 j k)
  have e : sortedFrom (fun k k' : Fin n => cmp (x (Shape.Idx.along (s := shape1 n) (ix1 j) (0 : Fin 1) k), y (Shape.Idx.along (s := shape1 n) (ix1 j) (0 : Fin 1) k))
      (x (Shape.Idx.along (s := shape1 n) (ix1 j) (0 : Fin 1) k'), y (Shape.Idx.along (s := shape1 n) (ix1 j) (0 : Fin 1) k')) == 1#1) j
        = source cmp x y j :=
    congrArg (fun R => sortedFrom R j) (funext fun k => funext fun k' =>
      congrArg₂ (fun a b => cmp a b == 1#1) (Prod.ext (ex k) (ey k)) (Prod.ext (ex k') (ey k')))
  exact ⟨(ex _).trans (congrArg (fun q => x (ix1 q)) e), (ey _).trans (congrArg (fun q => y (ix1 q)) e)⟩

end Pair

/-! ## Scatters that add -/

/-- A left fold that adds the chosen entries is the start plus their sum. -/
theorem foldl_add_eq {M : Type} [AddCommMonoid M] {K : ℕ} (p : Fin K → Prop) [DecidablePred p] (f : Fin K → M) (a : M) :
    (List.finRange K).foldl (fun a n => if p n then a + f n else a) a = a + ∑ n : Fin K, if p n then f n else 0 := by
  have key : ∀ (l : List (Fin K)) (a : M), l.foldl (fun a n => if p n then a + f n else a) a
      = a + (l.map fun n => if p n then f n else 0).sum := by
    intro l
    induction l with
    | nil => intro a; simp
    | cons b l ih =>
      intro a
      rw [List.foldl_cons, ih, List.map_cons, List.sum_cons]
      by_cases h : p b
      · rw [if_pos h, if_pos h, add_assoc]
      · rw [if_neg h, if_neg h, zero_add]
  rw [key, ← List.sum_ofFn, List.ofFn_eq_map]

/-- Scattering words into a vector by addition: entry `k` gains every update whose index word is `k`. -/
theorem scatter_add_at {n : ℕ} (d : ScatterDims (shape1 n) (shape2 n 1) (shape1 n)) (hiw : d.insertedWindowDims = [0])
    (hsd : d.scatterDimsToOperandDims = [0]) (hivd : d.indexVectorDim = 1) (x0 : (shape1 n).Idx → BitVec 32)
    (idx : IVec (shape2 n 1) 32) (upd : (shape1 n).Idx → BitVec 32) (k : Fin n) :
    Host.scatter d IntOp.addi x0 idx upd (ix1 k)
      = x0 (ix1 k) + ∑ i : Fin n, if (idx (ix2 i (0 : Fin 1))).toInt = (k.val : ℤ) then upd (ix1 i) else 0 := by
  rw [scatter_at]
  refine (foldl_add_eq _ _ _).trans (congrArg _ ?_)
  refine Fintype.sum_equiv (finCongr (numel1 n)) _ _ fun m => ?_
  rw [symm1]
  by_cases h : (idx (ix2 (m.cast (numel1 n)) (0 : Fin 1))).toInt = (k.val : ℤ)
  · rw [if_pos ((scatter_lands_signed d hiw hsd hivd idx _ k).2 h)]; exact (if_pos h).symm
  · rw [if_neg (fun c => h ((scatter_lands_signed d hiw hsd hivd idx _ k).1 c))]; exact (if_neg h).symm

/-- Where a row update lands: row `i` of the updates goes to the row its index word names, column by column. -/
theorem rows_land {n C : ℕ} (wf : ScatterDims.WF (shape2 n C) (shape2 n 1) (shape2 n C) [1] [0] [0] 1)
    (idx : IVec (shape2 n 1) 32) (i k : Fin n) (c c' : Fin C) :
    (ScatterDims.mk (s := shape2 n C) (si := shape2 n 1) (u := shape2 n C) [1] [0] [0] 1 wf).resultIdx? (ix2 i c') idx = some (ix2 k c)
      ↔ (idx (ix2 i (0 : Fin 1))).toInt = (k.val : ℤ) ∧ c' = c := by
  rw [resultIdx?_ix2]
  have h0 : (ScatterDims.mk (s := shape2 n C) (si := shape2 n 1) (u := shape2 n C) [1] [0] [0] 1 wf).start (ix2 i c') idx 0
      = (idx (ix2 i (0 : Fin 1))).toInt := by
    unfold ScatterDims.start
    rw [dif_pos (List.mem_singleton.2 rfl)]
    refine congrArg (fun z => (idx z).toInt) (funext fun b => Fin.ext ?_)
    match b with
    | ⟨0, _⟩ => rfl
    | ⟨1, _⟩ => rfl
  have h1 : (ScatterDims.mk (s := shape2 n C) (si := shape2 n 1) (u := shape2 n C) [1] [0] [0] 1 wf).start (ix2 i c') idx 1 = 0 := rfl
  have w0 : (ScatterDims.mk (s := shape2 n C) (si := shape2 n 1) (u := shape2 n C) [1] [0] [0] 1 wf).window (ix2 i c') 0 = 0 := rfl
  have w1 : (ScatterDims.mk (s := shape2 n C) (si := shape2 n 1) (u := shape2 n C) [1] [0] [0] 1 wf).window (ix2 i c') 1 = c'.val := rfl
  rw [h0, h1, w0, w1, Fin.ext_iff]
  omega

/-- Scattering rows into a matrix by addition, over the reals: entry `(k, c)` gains entry `c` of every update row whose
    index word is `k`. -/
theorem rows_add_at {n C : ℕ} (wf : ScatterDims.WF (shape2 n C) (shape2 n 1) (shape2 n C) [1] [0] [0] 1)
    (x0 : FVec Ideal (shape2 n C) .f32) (idx : IVec (shape2 n 1) 32) (upd : FVec Ideal (shape2 n C) .f32) (k : Fin n) (c : Fin C) :
    Host.scatterAdd (F := Ideal) (φ := .f32) (ScatterDims.mk (s := shape2 n C) (si := shape2 n 1) (u := shape2 n C) [1] [0] [0] 1 wf) x0 idx upd (ix2 k c)
      = (x0 (ix2 k c) + ∑ i : Fin n, if (idx (ix2 i (0 : Fin 1))).toInt = (k.val : ℤ) then (upd (ix2 i c) : EReal) else 0 : EReal) := by
  show (x0 (ix2 k c) + ∑ j ∈ Finset.univ.filter (fun j => _ = some (ix2 k c)), upd j : EReal) = _
  refine congrArg _ ?_
  rw [← Finset.sum_filter]
  symm
  refine Finset.sum_bij (fun i _ => ix2 i c) (fun i hi => ?_) (fun i _ j _ h => ?_) (fun j hj => ?_) fun i _ => rfl
  · rw [Finset.mem_filter] at hi ⊢
    exact ⟨Finset.mem_univ _, (rows_land wf idx i k c c).2 ⟨hi.2, rfl⟩⟩
  · exact congrFun h 0
  · obtain ⟨a, b, rfl⟩ : ∃ a b, j = ix2 a b := ⟨j 0, j 1, ValueIdx.eq_ix2 j⟩
    have h := (rows_land wf idx a k c b).1 (Finset.mem_filter.1 hj).2
    exact ⟨a, Finset.mem_filter.2 ⟨Finset.mem_univ _, h.1⟩, by rw [h.2]⟩

end Cert.Words
-- ==== Proof.Value.Groups.lean ====
module

public import proofs.«01_k».proof.Proof.Value.Host

/-! # Averages over groups

`r j` is the group of the entry at sorted position `j`, and position `j` holds entry `σ j`, so entry `i` belongs to
group `r (σ⁻¹ i)`. Summing over sorted positions or over entries gives the same sums, and dividing a group's sum by the
group's size is the sum of its members divided each. -/

@[expose] public section

set_option maxRecDepth 16384

noncomputable section

namespace Cert.Words

open Idealize.ShloMosaic hiding ix0 ix1 ix2 ix3
open Idealize.ShloMosaic.ValueIdx Idealize.ShloMosaic.Routing
open Finset

variable {n : ℕ} (σ : Fin n ≃ Fin n) (r : Fin n → ℕ)

/-- The group of entry `i`. -/
def groupOf (i : Fin n) : ℕ := r (σ.symm i)

/-- The number of entries that `f` puts in group `k`. -/
def size (f : Fin n → ℕ) (k : ℕ) : ℕ := (univ.filter fun i : Fin n => f i = k).card

theorem size_le (f : Fin n → ℕ) (k : ℕ) : size f k ≤ n := (Finset.card_le_univ _).trans (by simp)

theorem size_pos (f : Fin n → ℕ) (i : Fin n) : 1 ≤ size f (f i) :=
  Finset.card_pos.2 ⟨i, Finset.mem_filter.2 ⟨Finset.mem_univ _, rfl⟩⟩

/-- A sum over sorted positions is the sum over entries. -/
theorem sum_positions {M : Type} [AddCommMonoid M] (f : Fin n → M) (k : ℕ) :
    (∑ j : Fin n, if r j = k then f (σ j) else 0) = ∑ i : Fin n, if groupOf σ r i = k then f i else 0 :=
  Fintype.sum_equiv σ _ _ fun j => by unfold groupOf; rw [Equiv.symm_apply_apply]

theorem size_groupOf (k : ℕ) : size (groupOf σ r) k = size r k := by
  unfold size
  rw [Finset.card_filter, Finset.card_filter]
  exact (sum_positions σ r (fun _ => 1) k).symm

/-- Writing `r j` at place `σ j` for every `j` leaves at place `i` the group of entry `i`. -/
theorem inverse_at (hn : n < 2 ^ 31) (d : ScatterDims (shape1 n) (shape2 n 1) (shape1 n)) (hiw : d.insertedWindowDims = [0])
    (hsd : d.scatterDimsToOperandDims = [0]) (hivd : d.indexVectorDim = 1) (x0 : IVec (shape1 n) 32)
    (idx : IVec (shape2 n 1) 32) (upd : IVec (shape1 n) 32) (hidx : ∀ j : Fin n, idx (ix2 j (0 : Fin 1)) = BitVec.ofNat 32 (σ j).val)
    (hupd : ∀ j : Fin n, upd (ix1 j) = BitVec.ofNat 32 (r j)) (i : Fin n) :
    Host.scatter d (fun _ b => b) x0 idx upd (ix1 i) = BitVec.ofNat 32 (groupOf σ r i) := by
  have e : ∀ j : Fin n, (idx (ix2 j (0 : Fin 1))).toInt = (i.val : ℤ) ↔ σ j = i := fun j => by
    rw [hidx, StableHlo.Predicate.toInt_ofNat_small _ (lt_trans (σ j).isLt hn), Fin.ext_iff]
    omega
  refine (scatter_set_signed d hiw hsd hivd x0 idx upd i _ fun j hj => ?_).1 ⟨σ.symm i, (e _).2 (σ.apply_symm_apply i)⟩
  rw [hupd]
  unfold groupOf
  rw [← (e j).1 hj, Equiv.symm_apply_apply]

/-- Adding one at place `f i` for every `i` counts the groups' entries. -/
theorem count_at (hn : n < 2 ^ 31) (d : ScatterDims (shape1 n) (shape2 n 1) (shape1 n)) (hiw : d.insertedWindowDims = [0])
    (hsd : d.scatterDimsToOperandDims = [0]) (hivd : d.indexVectorDim = 1) (x0 : IVec (shape1 n) 32)
    (idx : IVec (shape2 n 1) 32) (upd : IVec (shape1 n) 32) (f : Fin n → ℕ) (hf : ∀ j, f j < n)
    (hx0 : ∀ k, x0 (ix1 k) = 0#32) (hidx : ∀ j : Fin n, idx (ix2 j (0 : Fin 1)) = BitVec.ofNat 32 (f j))
    (hupd : ∀ j : Fin n, upd (ix1 j) = 1#32) (k : Fin n) :
    Host.scatter d IntOp.addi x0 idx upd (ix1 k) = BitVec.ofNat 32 (size f k.val) := by
  rw [scatter_add_at d hiw hsd hivd, hx0]
  have e : ∀ j : Fin n, (if (idx (ix2 j (0 : Fin 1))).toInt = (k.val : ℤ) then upd (ix1 j) else 0)
      = BitVec.ofNat 32 (if f j = k.val then 1 else 0) := fun j => by
    rw [hidx, StableHlo.Predicate.toInt_ofNat_small _ (lt_trans (hf j) hn), hupd]
    by_cases h : f j = k.val
    · rw [if_pos h, if_pos (by omega)]
    · rw [if_neg h, if_neg (by omega)]; rfl
  rw [Finset.sum_congr rfl fun j _ => e j]
  unfold size
  rw [Finset.card_filter]
  have s : ∀ t : Finset (Fin n), (∑ j ∈ t, BitVec.ofNat 32 (if f j = k.val then 1 else 0)) = BitVec.ofNat 32 (∑ j ∈ t, if f j = k.val then 1 else 0) := by
    intro t
    induction t using Finset.induction_on with
    | empty => rfl
    | insert a t ha ih => rw [Finset.sum_insert ha, Finset.sum_insert ha, BitVec.ofNat_add, ih]
  rw [s]
  exact zero_add _

/-- The sum of a column over a group, as a scatter of rows. -/
theorem rows_sum_at (hn : n < 2 ^ 31) {C : ℕ} (wf : ScatterDims.WF (shape2 n C) (shape2 n 1) (shape2 n C) [1] [0] [0] 1)
    (x0 : FVec Ideal (shape2 n C) .f32) (idx : IVec (shape2 n 1) 32) (upd : FVec Ideal (shape2 n C) .f32) (f : Fin n → ℕ)
    (hf : ∀ j, f j < n) (hx0 : ∀ k c, x0 (ix2 k c) = (0 : EReal)) (hidx : ∀ j : Fin n, idx (ix2 j (0 : Fin 1)) = BitVec.ofNat 32 (f j))
    (k : Fin n) (c : Fin C) :
    Host.scatterAdd (F := Ideal) (φ := .f32) (ScatterDims.mk (s := shape2 n C) (si := shape2 n 1) (u := shape2 n C) [1] [0] [0] 1 wf) x0 idx upd (ix2 k c)
      = (∑ i : Fin n, if f i = k.val then (upd (ix2 i c) : EReal) else 0 : EReal) := by
  rw [rows_add_at wf, hx0]
  refine (zero_add _).trans (Finset.sum_congr rfl fun j _ => ?_)
  rw [hidx, StableHlo.Predicate.toInt_ofNat_small _ (lt_trans (hf j) hn)]
  by_cases h : f j = k.val
  · rw [if_pos h, if_pos (by omega)]
  · rw [if_neg h, if_neg (by omega)]

/-! ## Dividing -/

/-- A number, as the float the programs turn a count into. -/
def real (c : ℕ) : EReal := ((c : ℝ) : EReal)

theorem sitofp_ofNat {c : ℕ} (h : c < 2 ^ 31) : (FloatOps.sitofp (F := Ideal) .f32 (BitVec.ofNat 32 c) : EReal) = real c := by
  show (((BitVec.ofNat 32 c).toInt : ℝ) : EReal) = _
  rw [StableHlo.Predicate.toInt_ofNat_small _ h]
  rfl

theorem maxsi_one {c : ℕ} (h : c < 2 ^ 31) : IntOp.maxsi (BitVec.ofNat 32 c) 1#32 = BitVec.ofNat 32 (max c 1) := by
  unfold IntOp.maxsi
  by_cases h1 : 1 < c
  · rw [if_pos, Nat.max_eq_left (by omega)]
    rw [BitVec.slt_iff_toInt_lt, StableHlo.Predicate.toInt_ofNat_small _ h]
    show (1 : ℤ) < _
    omega
  · rw [if_neg, Nat.max_eq_right (by omega)]
    rw [BitVec.slt_iff_toInt_lt, StableHlo.Predicate.toInt_ofNat_small _ h]
    show ¬ (1 : ℤ) < _
    omega

theorem maxsi_zero {c : ℕ} (h : c < 2 ^ 31) : IntOp.maxsi 0#32 (BitVec.ofNat 32 c) = BitVec.ofNat 32 c := by
  unfold IntOp.maxsi
  by_cases h1 : c = 0
  · subst h1; rw [if_neg (by decide)]
  · rw [if_neg]
    rw [BitVec.slt_iff_toInt_lt, StableHlo.Predicate.toInt_ofNat_small _ h]
    show ¬ _ < (0 : ℤ)
    omega

/-- Dividing a sum by a positive number divides every term. -/
theorem div_sum {ι : Type} (s : Finset ι) (f : ι → EReal) {c : ℕ} (hc : 1 ≤ c) :
    Ideal.div (∑ i ∈ s, f i) (real c) = ∑ i ∈ s, Ideal.div (f i) (real c) := by
  have h0 : ((c : ℕ) : ℝ) ≠ 0 := Nat.cast_ne_zero.2 (by omega)
  have e : ∀ x : EReal, Ideal.div x (real c) = ((1 / (c : ℝ) : ℝ) : EReal) * x := fun x => by
    rw [mul_comm]; exact Ideal.div_coe h0 x
  rw [e, Finset.sum_congr rfl fun i _ => e (f i)]
  have hp : (0 : EReal) ≤ ((1 / (c : ℝ) : ℝ) : EReal) := EReal.coe_nonneg.2 (by positivity)
  classical
  induction s using Finset.induction_on with
  | empty => rw [Finset.sum_empty, Finset.sum_empty, mul_zero]
  | insert a t ha ih =>
    rw [Finset.sum_insert ha, Finset.sum_insert ha, EReal.left_distrib_of_nonneg_of_ne_top hp (EReal.coe_ne_top _), ih]

/-- The mean of a group, taken by summing over sorted positions and dividing once, is the sum over its entries of the
    entry divided by the size of its group. -/
theorem mean_eq (f : Fin n → EReal) (k : ℕ) :
    Ideal.div (∑ j : Fin n, if r j = k then f (σ j) else 0) (real (max (size r k) 1))
      = ∑ i : Fin n, if groupOf σ r i = k then Ideal.div (f i) (real (size r (groupOf σ r i))) else 0 := by
  rw [sum_positions σ r f k, ← Finset.sum_filter, div_sum _ _ (by omega), ← Finset.sum_filter]
  refine Finset.sum_congr rfl fun i hi => ?_
  have h := (Finset.mem_filter.1 hi).2
  have h1 := size_pos (groupOf σ r) i
  rw [size_groupOf] at h1
  rw [h] at h1 ⊢
  rw [Nat.max_eq_left h1]

end Cert.Words
-- ==== Proof.Value.Steps.lean ====
module

public import proofs.«01_k».proof.Proof.Value.Groups
public import Idealize.ShloMosaic.Lib.Pointwise

/-! # Small host operations, read at an entry

Broadcasts of scalars and columns, the clearing of negative index words, a reduction over no axis, and the scatter that
writes every entry but the first. Every statement is at any extent. -/

@[expose] public section

set_option maxRecDepth 16384

noncomputable section

namespace Cert.Words

open Idealize.ShloMosaic hiding ix0 ix1 ix2 ix3
open Idealize.ShloMosaic.ValueIdx Idealize.ShloMosaic.Routing
open Finset

variable {n C : ℕ} {α : Type}

/-- A vector as a one-column matrix. -/
theorem column_of (v : (shape1 n).Idx → α) (h : (shape1 n).BroadcastsInDim (shape2 n 1) ![0]) (j : Fin n) :
    broadcastInDim (shape2 n 1) ![0] h v (ix2 j 0) = v (ix1 j) := by
  refine broadcastInDim_apply _ h v _ _ fun a => ?_
  match a with
  | ⟨0, _⟩ =>
    show j.val = if n = 1 then 0 else j.val
    by_cases h1 : n = 1
    · rw [if_pos h1]; have := j.isLt; omega
    · rw [if_neg h1]

/-- A one-column matrix repeated along the columns. -/
theorem columns_of (v : (shape2 n 1).Idx → α) (h : (shape2 n 1).BroadcastsInDim (shape2 n C) ![0, 1]) (j : Fin n) (c : Fin C) :
    broadcastInDim (shape2 n C) ![0, 1] h v (ix2 j c) = v (ix2 j 0) := by
  refine broadcastInDim_apply _ h v _ _ fun a => ?_
  match a with
  | ⟨0, _⟩ =>
    show j.val = if n = 1 then 0 else j.val
    by_cases h1 : n = 1
    · rw [if_pos h1]; have := j.isLt; omega
    · rw [if_neg h1]
  | ⟨1, _⟩ => rfl

/-- A vector as a one-row matrix. -/
theorem row_of (v : (shape1 C).Idx → α) (h : (shape1 C).BroadcastsInDim (shape2 1 C) ![1]) (c : Fin C) :
    broadcastInDim (shape2 1 C) ![1] h v (ix2 0 c) = v (ix1 c) := by
  refine broadcastInDim_apply _ h v _ _ fun a => ?_
  match a with
  | ⟨0, _⟩ =>
    show c.val = if C = 1 then 0 else c.val
    by_cases h1 : C = 1
    · rw [if_pos h1]; have := c.isLt; omega
    · rw [if_neg h1]

/-- A one-row matrix repeated along the rows. -/
theorem rows_of (v : (shape2 1 C).Idx → α) (h : (shape2 1 C).BroadcastsInDim (shape2 n C) ![0, 1]) (j : Fin n) (c : Fin C) :
    broadcastInDim (shape2 n C) ![0, 1] h v (ix2 j c) = v (ix2 0 c) := by
  refine broadcastInDim_apply _ h v _ _ fun a => ?_
  match a with
  | ⟨0, _⟩ => rfl
  | ⟨1, _⟩ =>
    show c.val = if C = 1 then 0 else c.val
    by_cases h1 : C = 1
    · rw [if_pos h1]; have := c.isLt; omega
    · rw [if_neg h1]

/-- An index word that is not negative is kept when negative ones are moved up. -/
theorem wrapped_at (v z w : IVec (shape1 n) 32) (h : (shape1 n).BroadcastsInDim (shape2 n 1) ![0]) (j : Fin n) {k : ℕ}
    (hz : z (ix1 j) = 0#32) (hv : v (ix1 j) = BitVec.ofNat 32 k) (hk : k < 2 ^ 31) :
    broadcastInDim (shape2 n 1) ![0] h (select (cmpi .slt v z) w v) (ix2 j 0) = BitVec.ofNat 32 k := by
  rw [column_of]
  show Scalar.select (IntOp.cmpi .slt (v (ix1 j)) (z (ix1 j))) (w (ix1 j)) (v (ix1 j)) = _
  rw [hz, wrap_of_lt _ _ ?_, hv]
  rw [hv, BitVec.toNat_ofNat, Nat.mod_eq_of_lt (by omega)]
  exact hk

/-- Reducing a vector over no axis combines every entry with the initial value. -/
theorem reduce_none_at {β : Type} (f : β → β → β) (x : (shape1 n).Idx → β) {u : Shape} (init : u.Idx → β) (h : (shape1 n).ReducesTo [] (shape1 n))
    (hu : 0 < u.numel) (j : (shape1 n).Idx) : Host.reduce f x init h hu j = f (init (Shape.Idx.first hu)) (x j) := by
  unfold Host.reduce
  have hd : ∀ i : (shape1 n).Idx, h.drop i = i := fun i => by
    funext b
    refine Fin.ext ?_
    exact congrArg (fun a => (i a).val) (Subsingleton.elim (α := Fin 1) (((shape1 n).kept [])[b.cast h.1]) b)
  have hf : ((List.finRange (shape1 n).numel).filter fun m => h.drop ((shape1 n).rowMajor.symm m) = j) = [(shape1 n).rowMajor j] := by
    have e : (fun m : Fin (shape1 n).numel => decide (h.drop ((shape1 n).rowMajor.symm m) = j)) = fun m => (m == (shape1 n).rowMajor j) := by
      funext m
      rw [hd]
      exact decide_eq_decide.2 (Equiv.symm_apply_eq _)
    rw [e, List.filter_beq, List.count_eq_one_of_mem (List.nodup_finRange _) (List.mem_finRange _)]
    rfl
  rw [hf]
  show f _ (x ((shape1 n).rowMajor.symm ((shape1 n).rowMajor j))) = _
  rw [Equiv.symm_apply_apply]

/-- Writing a vector one place further on leaves the first entry and fills the others. -/
theorem after_first_at {N : ℕ} (hN : n + 1 = N) (wf : ScatterDims.WF (shape1 N) (shape1 1) (shape1 n) [0] [] [0] 0)
    (x0 : (shape1 N).Idx → α) (idx : IVec (shape1 1) 32) (hidx : idx (ix1 0) = 1#32) (upd : (shape1 n).Idx → α) (j : Fin N) :
    Host.scatter (ScatterDims.mk (s := shape1 N) (si := shape1 1) (u := shape1 n) [0] [] [0] 0 wf) (fun _ b => b) x0 idx upd (ix1 j)
      = if h : j.val = 0 then x0 (ix1 j) else upd (ix1 ⟨j.val - 1, by have := j.isLt; omega⟩) := by
  have hs : ∀ k : Fin n, (ScatterDims.mk (s := shape1 N) (si := shape1 1) (u := shape1 n) [0] [] [0] 0 wf).start (ix1 k) idx 0 = 1 := fun k => by
    unfold ScatterDims.start
    rw [dif_pos (List.mem_singleton.2 rfl)]
    rw [show ∀ q : (shape1 1).Idx, idx q = 1#32 from fun q => by rw [← hidx]; exact congrArg idx (funext fun a => by
      match a with
      | ⟨0, _⟩ => exact Subsingleton.elim (α := Fin 1) _ _)]
    rfl
  have hw : ∀ k : Fin n, (ScatterDims.mk (s := shape1 N) (si := shape1 1) (u := shape1 n) [0] [] [0] 0 wf).window (ix1 k) 0 = k.val := fun k => rfl
  have key : ∀ k : (shape1 n).Idx, (ScatterDims.mk (s := shape1 N) (si := shape1 1) (u := shape1 n) [0] [] [0] 0 wf).resultIdx? k idx = some (ix1 j) ↔ (k 0).val + 1 = j.val := fun k => by
    obtain ⟨q, rfl⟩ : ∃ q : Fin n, k = ix1 q := ⟨k 0, by funext a; match a with | ⟨0, _⟩ => rfl⟩
    rw [resultIdx?_ix1, hs, hw]
    show _ ↔ q.val + 1 = j.val
    omega
  by_cases h : j.val = 0
  · rw [dif_pos h]
    exact scatter_set_miss _ x0 idx upd _ fun k hk => by have := (key k).1 hk; omega
  · rw [dif_neg h]
    refine scatter_set_hit _ x0 idx upd _ _ (fun k hk => congrArg upd (funext fun a => Fin.ext ?_)) (ix1 ⟨j.val - 1, by have := j.isLt; omega⟩) ((key _).2 (by show j.val - 1 + 1 = _; omega))
    match a with
    | ⟨0, _⟩ =>
      have := (key k).1 hk
      show (k 0).val = j.val - 1
      omega

/-- Turning a vector into a column, the column into a row, the row's order along its single-entry axis around, and the row
    back into a vector leaves the vector. -/
theorem turned_at (x : (shape1 n).Idx → α) (h1 : (shape1 n).ShapeCasts (shape2 n 1)) (h2 : (shape2 n 1).Transposes [1, 0] (shape2 1 n))
    (h3 : (shape2 1 n).Slices ![0, 0] (shape2 1 n)) (h4 : (shape2 1 n).ShapeCasts (shape1 n)) (i : Fin n) :
    shapeCast (shape1 n) (extractStridedSlice (shape2 1 n) ![0, 0]
      (Host.reverse [0] (transpose (shape2 1 n) [1, 0] (shapeCast (shape2 n 1) x h1) h2)) h3) h4 (ix1 i) = x (ix1 i) := by
  rw [cast21 (a := 1) (b := n) _ h4 0 i i (by simp)]
  have e3 : ∀ y : (shape2 1 n).Idx → α, extractStridedSlice (shape2 1 n) ![0, 0] y h3 (ix2 0 i) = y (ix2 0 i) := fun y => by
    unfold extractStridedSlice
    refine congrArg y (funext fun a => Fin.ext ?_)
    match a with
    | ⟨0, _⟩ => rfl
    | ⟨1, _⟩ => exact Nat.zero_add _
  have e2 : ∀ y : (shape2 1 n).Idx → α, Host.reverse [0] y (ix2 0 i) = y (ix2 0 i) := fun y => by
    unfold Host.reverse
    refine congrArg y (funext fun a => ?_)
    match a with
    | ⟨0, _⟩ => exact Subsingleton.elim (α := Fin 1) _ _
    | ⟨1, _⟩ => rfl
  rw [e3, e2, transpose_apply [1, 0] _ h2 (ix2 0 i) (ix2 i 0) fun b => by
    match b with
    | ⟨0, _⟩ => rfl
    | ⟨1, _⟩ => rfl]
  exact cast12 (a := n) (b := 1) _ h1 i 0 i (by simp)

/-- A flag: set at the first entry, and elsewhere when the entry differs from the one before. -/
theorem flag_word (G : ℕ → BitVec 32) (j : ℕ) (u : BitVec 1)
    (hu : j ≠ 0 → u = IntOp.ori 0#1 (IntOp.cmpi .ne (G j) (G (j - 1)))) (h0 : j = 0 → u = 1#1) :
    u.setWidth 32 = BitVec.ofNat 32 (mark G j) := by
  have hm : mark G j = if starts G j then 1 else 0 := rfl
  by_cases h : j = 0
  · have hs : starts G j := .inl h
    rw [h0 h, hm, if_pos hs]; rfl
  · have e : IntOp.ori 0#1 (IntOp.cmpi .ne (G j) (G (j - 1))) = IntOp.cmpi .ne (G j) (G (j - 1)) := BitVec.zero_or
    rw [hu h, e, ne_word, hm]
    by_cases hg : G j = G (j - 1)
    · have hs : ¬ starts G j := not_or.2 ⟨h, not_not.2 hg⟩
      rw [if_neg (not_not.2 hg), if_neg hs]
    · have hs : starts G j := .inr hg
      rw [if_pos hg, if_pos hs]

/-- A sum over the entries up to one of them. -/
theorem sum_upto {M : Type} [AddCommMonoid M] (f : ℕ → M) (j : Fin n) :
    (∑ i : Fin n, if i ≤ j then f i.val else 0) = ∑ i ∈ range (j.val + 1), f i := by
  refine (Fin.sum_univ_eq_sum_range (fun q => if q ≤ j.val then f q else 0) n).trans ?_
  rw [← Finset.sum_filter]
  refine Finset.sum_congr (Finset.ext fun q => ?_) fun _ _ => rfl
  have := j.isLt
  rw [Finset.mem_filter, Finset.mem_range, Finset.mem_range]
  omega

/-- A quotient of arrays over the real numbers, read at an entry. -/
theorem divf_at {s : Shape} (x y : FVec Ideal s .f32) (i : s.Idx) : Host.divf x y i = Ideal.div (x i) (y i) := rfl

/-- Rounding an array toward zero, read at an entry. -/
theorem fptosi_at {s : Shape} (x : FVec Ideal s .f32) (i : s.Idx) : fptosi 32 x i = FloatOps.fptosi (F := Ideal) 32 (x i) := rfl

/-- An array of words as floats, read at an entry. -/
theorem sitofp_at {s : Shape} (x : IVec s 32) (i : s.Idx) : sitofp (F := Ideal) .f32 x i = FloatOps.sitofp (F := Ideal) .f32 (x i) := rfl

/-- An entry of a matrix of reals. -/
def entry (x : FVec Ideal (shape2 n C) .f32) (i : Fin n) (c : Fin C) : EReal := x (ix2 i c)

end Cert.Words
-- ==== Proof.KernelIdeal.Tail.lean ====
module

public import proofs.«01_k».proof.Proof.KernelIdeal.Host
public import proofs.«01_k».proof.Proof.Value.Steps

/-! # What the operations after the second kernel compute

`σ` is the sorting permutation and `r j` the group number of sorted position `j`: the two inputs of these operations.
Each theorem reads one of their results at an entry, over the real numbers. -/

@[expose] public section

set_option maxRecDepth 16384

noncomputable section

namespace Cert.KernelIdeal.Hand

open Cert.KernelIdeal Cert.KernelIdeal.Gen Cert.Words Idealize.ShloMosaic.TcCoe Idealize.SL.Sem Idealize.ShloMosaic.StableHlo
open Idealize.ShloMosaic hiding ix0 ix1 ix2 ix3
open Idealize.ShloMosaic.ValueIdx Idealize.ShloMosaic.Routing

attribute [local irreducible] Host.scatter Host.scatterAdd Host.gather broadcastInDim

variable (V : Valuation τ sig (Elt Ideal)) (σ : Fin 320000 ≃ Fin 320000) (r : Fin 320000 → ℕ)

/-- The operations' two inputs: the permutation and the group numbers. -/
structure Inputs : Prop where
  lt : ∀ j, r j < 320000
  perm : ∀ j : Fin 320000, fin V main_v4_1 (ix1 j) = BitVec.ofNat 32 (σ j).val
  rank : ∀ j : Fin 320000, fin V main_v7 (ix1 j) = BitVec.ofNat 32 (r j)

variable {V σ r} (h : Inputs V σ r)
include h

theorem perm_lt (j : Fin 320000) : (σ j).val < 2 ^ 31 := lt_trans (σ j).isLt (by decide)
theorem rank_lt (j : Fin 320000) : r j < 2 ^ 31 := lt_trans (h.lt j) (by decide)

theorem at_v14 (j : Fin 320000) : fin V main_v14 (ix2 j 0) = BitVec.ofNat 32 (σ j).val := by
  rw [fin_main_v14, fin_main_v13, fin_main_v10]
  exact wrapped_at (n := 320000) _ _ _ _ j (by rw [fin_main_v9, fin_main_c_0]; unfold broadcastInDim; rfl) (h.perm j) (perm_lt h j)

theorem at_v34 (j : Fin 320000) : fin V main_v34 (ix2 j 0) = BitVec.ofNat 32 (σ j).val := by
  rw [fin_main_v34, fin_main_v33, fin_main_v30]
  exact wrapped_at (n := 320000) _ _ _ _ j (by rw [fin_main_v29, fin_main_c_7]; unfold broadcastInDim; rfl) (h.perm j) (perm_lt h j)

theorem at_v54 (j : Fin 320000) : fin V main_v54 (ix2 j 0) = BitVec.ofNat 32 (σ j).val := by
  rw [fin_main_v54, fin_main_v53, fin_main_v50]
  exact wrapped_at (n := 320000) _ _ _ _ j (by rw [fin_main_v49, fin_main_c_12]; unfold broadcastInDim; rfl) (h.perm j) (perm_lt h j)

theorem at_v22 (j : Fin 320000) : fin V main_v22 (ix2 j 0) = BitVec.ofNat 32 (r j) := by
  rw [fin_main_v22, fin_main_v21, fin_main_v18]
  exact wrapped_at (n := 320000) _ _ _ _ j (by rw [fin_main_v17, fin_main_c_3]; unfold broadcastInDim; rfl) (h.rank j) (rank_lt h j)

theorem at_v42 (j : Fin 320000) : fin V main_v42 (ix2 j 0) = BitVec.ofNat 32 (r j) := by
  rw [fin_main_v42, fin_main_v41, fin_main_v38]
  exact wrapped_at (n := 320000) _ _ _ _ j (by rw [fin_main_v37, fin_main_c_9]; unfold broadcastInDim; rfl) (h.rank j) (rank_lt h j)

theorem at_v61 (j : Fin 320000) : fin V main_v61 (ix2 j 0) = BitVec.ofNat 32 (r j) := by
  rw [fin_main_v61, fin_main_v60, fin_main_v57]
  exact wrapped_at (n := 320000) _ _ _ _ j (by rw [fin_main_v56, fin_main_c_14]; unfold broadcastInDim; rfl) (h.rank j) (rank_lt h j)

/-- The inverse map: entry `i`'s group. -/
theorem at_v15 (i : Fin 320000) : fin V main_v15 (ix1 i) = BitVec.ofNat 32 (groupOf σ r i) := by
  rw [fin_main_v15]
  exact inverse_at (n := 320000) σ r (by decide) _ rfl rfl rfl _ _ _ (at_v14 h) h.rank i

/-- The groups' sizes. -/
theorem at_v24 (k : Fin 320000) : fin V main_v24 (ix1 k) = BitVec.ofNat 32 (size r k.val) := by
  rw [fin_main_v24]
  refine count_at (n := 320000) (by decide) _ rfl rfl rfl _ _ _ r h.lt (fun k => ?_) (at_v22 h) (fun k => ?_) k
  · rw [fin_main_v16, fin_main_c_2]; unfold broadcastInDim; rfl
  · rw [fin_main_v23, fin_main_c_5]; unfold broadcastInDim; rfl

/-- The divisors: the groups' sizes, one for an empty group. -/
theorem at_v27 (k : Fin 320000) : (fin V main_v27 (ix1 k) : EReal) = real (max (size r k.val) 1) := by
  have hs : size r k.val < 2 ^ 31 := lt_of_le_of_lt (size_le r k.val) (by decide)
  rw [fin_main_v27, fin_main_v26]
  have e1 : fin V main_v25 (ix1 k) = 1#32 := by rw [fin_main_v25, fin_main_c_6]; unfold broadcastInDim; rfl
  show (FloatOps.sitofp (F := Ideal) .f32 (IntOp.maxsi (fin V main_v24 (ix1 k)) (fin V main_v25 (ix1 k))) : EReal) = _
  rw [at_v24 h, e1, maxsi_one hs]
  exact sitofp_ofNat (max_lt hs (by decide))

/-- The rows of coordinates in sorted order. -/
theorem at_v35 (j : Fin 320000) (a : Fin 4) : fin V main_v35 (ix2 j a) = FloatOps.sitofp (F := Ideal) .f32 (fin V main_v1_1 (ix2 (σ j) a)) := by
  rw [fin_main_v35]
  refine (gather_row (nb := 320000) (B := 4) (n := 320000) _ rfl rfl rfl rfl rfl _ _ j a (σ j) (at_v34 h j) (by decide)).trans ?_
  rw [fin_main_v28]
  rfl

/-- The rows of features in sorted order. -/
theorem at_v55 (j : Fin 320000) (a : Fin 128) : fin V main_v55 (ix2 j a) = fin V main_arg0 (ix2 (σ j) a) := by
  rw [fin_main_v55]
  exact gather_row (nb := 320000) (B := 128) (n := 320000) _ rfl rfl rfl rfl rfl _ _ j a (σ j) (at_v54 h j) (by decide)

/-- The groups' sums of coordinates. -/
theorem at_v43 (k : Fin 320000) (a : Fin 4) :
    (fin V main_v43 (ix2 k a) : EReal) = ∑ j : Fin 320000, if r j = k.val then (FloatOps.sitofp (F := Ideal) .f32 (fin V main_v1_1 (ix2 (σ j) a)) : EReal) else 0 := by
  rw [fin_main_v43]
  refine (rows_sum_at (n := 320000) (C := 4) (by decide) _ _ _ _ r h.lt (fun k c => ?_) (at_v42 h) k a).trans ?_
  · rw [fin_main_v36, fin_main_cst]; unfold broadcastInDim; exact Ideal.ofBits_zero (φ := .f32)
  · exact Finset.sum_congr rfl fun j _ => by rw [at_v35 h]

/-- The groups' sums of features. -/
theorem at_v62 (k : Fin 320000) (a : Fin 128) :
    (fin V main_v62 (ix2 k a) : EReal) = ∑ j : Fin 320000, if r j = k.val then entry (n := 320000) (C := 128) (fin V main_arg0) (σ j) a else 0 := by
  rw [fin_main_v62]
  refine (rows_sum_at (n := 320000) (C := 128) (by decide) _ _ _ _ r h.lt (fun k c => ?_) (at_v61 h) k a).trans ?_
  · rw [fin_main_v48, fin_main_cst_11]; unfold broadcastInDim; exact Ideal.ofBits_zero (φ := .f32)
  · exact Finset.sum_congr rfl fun j _ => congrArg (fun z : EReal => if r j = k.val then z else 0) (at_v55 h j a)

/-- The divisors beside the groups' coordinates. -/
theorem at_v45 (k : Fin 320000) (a : Fin 4) : (fin V main_v45 (ix2 k a) : EReal) = real (max (size r k.val) 1) := by
  rw [fin_main_v45, fin_main_v44]
  exact (columns_of (n := 320000) (C := 4) _ _ k a).trans ((column_of (n := 320000) _ _ k).trans (at_v27 h k))

/-- The divisors beside the groups' features. -/
theorem at_v64 (k : Fin 320000) (a : Fin 128) : (fin V main_v64 (ix2 k a) : EReal) = real (max (size r k.val) 1) := by
  rw [fin_main_v64, fin_main_v63]
  exact (columns_of (n := 320000) (C := 128) _ _ k a).trans ((column_of (n := 320000) _ _ k).trans (at_v27 h k))

/-- The groups' mean coordinates, rounded toward zero. -/
theorem at_v47 (k : Fin 320000) (a : Fin 4) : fin V main_v47 (ix2 k a)
    = FloatOps.fptosi (F := Ideal) (φ := .f32) 32 (Ideal.div (∑ i : Fin 320000, if groupOf σ r i = k.val then (FloatOps.sitofp (F := Ideal) .f32 (fin V main_v1_1 (ix2 i a)) : EReal) else 0)
        (real (max (size r k.val) 1))) := by
  refine (congrFun (fin_main_v47 V) (ix2 k a)).trans ((fptosi_at _ _).trans (congrArg _ ?_))
  refine (congrFun (fin_main_v46 V) (ix2 k a)).trans ((divf_at _ _ _).trans (congrArg₂ Ideal.div ?_ (at_v45 h k a)))
  exact (at_v43 h k a).trans (sum_positions σ r (fun i => (FloatOps.sitofp (F := Ideal) .f32 (fin V main_v1_1 (ix2 i a)) : EReal)) k.val)

/-- The groups' mean features, as the sum of the members divided each. -/
theorem at_v65 (k : Fin 320000) (a : Fin 128) : (fin V main_v65 (ix2 k a) : EReal)
    = ∑ i : Fin 320000, if groupOf σ r i = k.val then Ideal.div (entry (n := 320000) (C := 128) (fin V main_arg0) i a) (real (size r (groupOf σ r i))) else 0 := by
  refine (congrFun (fin_main_v65 V) (ix2 k a)).trans ((divf_at _ _ _).trans ((congrArg₂ Ideal.div (at_v62 h k a) (at_v64 h k a)).trans ?_))
  exact mean_eq σ r (fun i => entry (n := 320000) (C := 128) (fin V main_arg0) i a) k.val

end Cert.KernelIdeal.Hand
-- ==== Proof.Value.Problem.lean ====
module

public import proofs.«01_k».proof.Proof.Value.Offsets
public import proofs.«01_k».proof.Proof.Value.Groups

/-! # The four results, from the four arguments

Offsets and new coordinates of every row, the rows' hash words, the permutation that sorts the hashes, and the number of
the group each sorted position belongs to. The results are the offsets, the groups' mean coordinates, the groups' mean
features and the group of every row. Both programs compute them; `cmp` is the comparison their sort uses. -/

@[expose] public section

set_option maxRecDepth 16384

noncomputable section

namespace Cert.Words

open Idealize.ShloMosaic hiding ix0 ix1 ix2 ix3
open Idealize.ShloMosaic.ValueIdx Idealize.ShloMosaic.Routing

variable (cmp : BitVec 32 × BitVec 32 → BitVec 32 × BitVec 32 → BitVec 1)
variable (feats : FVec Ideal (shape2 320000 128) .f32) (coords : IVec (shape2 320000 4) 32) (weights : FVec Ideal (shape2 128 3) .f32)
  (bias : FVec Ideal (shape1 3) .f32)

/-- The offsets of row `i`. -/
def offsetAt (i : Fin 320000) (a : Fin 3) : Ideal .f32 := offsetOf (fun k => feats (ix2 i k)) weights (fun a => bias (ix1 a)) a

/-- The new coordinates of row `i`. -/
def coordAt (i : Fin 320000) (a : Fin 4) : BitVec 32 := coordOf (fun a => coords (ix2 i a)) (offsetAt feats weights bias i) a

/-- The hash word of row `i`. -/
def hashAt (i : Fin 320000) : BitVec 32 := hashOf (coordAt feats coords weights bias i)

/-- The permutation that sorts the hashes, each carried with its row number. -/
def sorted (h : Fin 320000 → BitVec 32) : Fin 320000 ≃ Fin 320000 :=
  sourceEquiv cmp (fun i : (shape1 320000).Idx => h (i 0)) (iotaInDim (shape1 320000) 32 0)

theorem sorted_apply (h : Fin 320000 → BitVec 32) (j : Fin 320000) :
    sorted cmp h j = source cmp (fun i : (shape1 320000).Idx => h (i 0)) (iotaInDim (shape1 320000) 32 0) j := by
  unfold sorted
  exact sourceEquiv_apply _ _ _ j

theorem iota_at (j : Fin 320000) : iotaInDim (shape1 320000) 32 0 (ix1 j) = BitVec.ofNat 32 j.val := rfl

/-- The hashes in sorted order. -/
def sortedHash (h : Fin 320000 → BitVec 32) (j : ℕ) : BitVec 32 := if hj : j < 320000 then h (sorted cmp h ⟨j, hj⟩) else 0

/-- The number of the group that sorted position `j` belongs to. -/
def rankAt (h : Fin 320000 → BitVec 32) (j : Fin 320000) : ℕ := group (sortedHash cmp h) j.val

theorem rankAt_lt (h : Fin 320000 → BitVec 32) (j : Fin 320000) : rankAt cmp h j < 320000 := lt_of_le_of_lt (group_le _ _) j.isLt

theorem sortedHash_at (h : Fin 320000 → BitVec 32) (j : Fin 320000) : sortedHash cmp h j.val = h (sorted cmp h j) := dif_pos j.isLt

/-- The group of row `i`. -/
def groupAt (h : Fin 320000 → BitVec 32) (i : Fin 320000) : ℕ := groupOf (sorted cmp h) (rankAt cmp h) i

theorem groupAt_lt (h : Fin 320000 → BitVec 32) (i : Fin 320000) : groupAt cmp h i < 320000 := rankAt_lt cmp h _

/-- The mean of group `k`'s coordinates, rounded toward zero. -/
def meanCoord (h : Fin 320000 → BitVec 32) (C : Fin 320000 → Fin 4 → BitVec 32) (k : Fin 320000) (a : Fin 4) : BitVec 32 :=
  FloatOps.fptosi (F := Ideal) (φ := .f32) 32 (Ideal.div
    (∑ i : Fin 320000, if groupAt cmp h i = k.val then (FloatOps.sitofp (F := Ideal) .f32 (C i a) : EReal) else 0)
    (real (max (size (rankAt cmp h) k.val) 1)))

/-- The mean of group `k`'s features, each member divided by its group's size. -/
def meanFeat (h : Fin 320000 → BitVec 32) (X : Fin 320000 → Fin 128 → EReal) (k : Fin 320000) (c : Fin 128) : EReal :=
  ∑ i : Fin 320000, if groupAt cmp h i = k.val then Ideal.div (X i c) (real (size (rankAt cmp h) (groupAt cmp h i))) else 0

/-- The mean coordinates, from any list of words that holds the coordinates. -/
theorem meanCoord_of (h : Fin 320000 → BitVec 32) (C : Fin 320000 → Fin 4 → BitVec 32) (k : Fin 320000) (a : Fin 4) (w : Fin 320000 → BitVec 32)
    (hw : ∀ i, w i = C i a) :
    FloatOps.fptosi (F := Ideal) (φ := .f32) 32 (Ideal.div
      (∑ i : Fin 320000, if groupOf (sorted cmp h) (rankAt cmp h) i = k.val then (FloatOps.sitofp (F := Ideal) .f32 (w i) : EReal) else 0)
      (real (max (size (rankAt cmp h) k.val) 1))) = meanCoord cmp h C k a := by
  obtain rfl : w = fun i => C i a := funext hw
  unfold meanCoord groupAt
  exact Eq.refl _

/-- The mean features, from any list of reals that holds the features. -/
theorem meanFeat_of (h : Fin 320000 → BitVec 32) (X : Fin 320000 → Fin 128 → EReal) (k : Fin 320000) (c : Fin 128) (x : Fin 320000 → EReal)
    (hx : ∀ i, x i = X i c) :
    (∑ i : Fin 320000, if groupOf (sorted cmp h) (rankAt cmp h) i = k.val
        then Ideal.div (x i) (real (size (rankAt cmp h) (groupOf (sorted cmp h) (rankAt cmp h) i))) else 0) = meanFeat cmp h X k c := by
  obtain rfl : x = fun i => X i c := funext hx
  unfold meanFeat groupAt
  exact Eq.refl _

/-- Sorting the hashes with their row numbers leaves the hashes in sorted order and the permutation. -/
theorem sorted_at (h : Fin 320000 → BitVec 32) (x y : IVec (shape1 320000) 32) (hx : ∀ i, x (ix1 i) = h i)
    (hy : ∀ i : Fin 320000, y (ix1 i) = BitVec.ofNat 32 i.val) (j : Fin 320000) :
    (Host.sort2 (shape1 320000) 0 cmp x y).1 (ix1 j) = sortedHash cmp h j.val
      ∧ (Host.sort2 (shape1 320000) 0 cmp x y).2 (ix1 j) = BitVec.ofNat 32 (sorted cmp h j).val := by
  have ex : x = fun i : (shape1 320000).Idx => h (i 0) := funext fun i => by
    rw [← hx (i 0)]
    exact congrArg x (funext fun a => by
      match a with
      | ⟨0, _⟩ => rfl)
  have ey : y = iotaInDim (shape1 320000) 32 0 := funext fun i => by
    refine Eq.trans (congrArg y (funext fun a => ?_)) (hy (i 0))
    match a with
    | ⟨0, _⟩ => rfl
  subst ex ey
  rw [sortedHash_at, sorted_apply]
  obtain ⟨e1, e2⟩ := sort2_at cmp (fun i : (shape1 320000).Idx => h (i 0)) (iotaInDim (shape1 320000) 32 0) j
  exact ⟨e1, e2.trans (iota_at _)⟩

end Cert.Words
-- ==== Proof.KernelIdeal.Results.lean ====
module

public import proofs.«01_k».proof.Proof.KernelIdeal.Run
public import proofs.«01_k».proof.Proof.KernelIdeal.HeadVal
public import proofs.«01_k».proof.Proof.KernelIdeal.RankVal
public import proofs.«01_k».proof.Proof.KernelIdeal.Tail
public import proofs.«01_k».proof.Proof.Value.Problem

/-! # The kernel program's four results

The two kernels' outputs and the host operations put together: what the program leaves in its result buffers, as functions of
the arguments. -/

@[expose] public section

set_option maxRecDepth 16384

noncomputable section

namespace Cert.KernelIdeal.Hand

open Cert.KernelIdeal Cert.KernelIdeal.Gen Cert.Words Idealize.ShloMosaic.TcCoe Idealize.SL.Sem Idealize.ShloMosaic.StableHlo
open Idealize.ShloMosaic hiding ix0 ix1 ix2 ix3
open Idealize.ShloMosaic.ValueIdx Idealize.ShloMosaic.Routing

attribute [local irreducible] Host.scatter Host.scatterAdd Host.gather Host.sort2 broadcastInDim shapeCast

variable (m : (ℓ : Loc nD τ sig) → Buf (Elt Ideal) ℓ) (ρ : Dev nD → PrngReg) (c : Dev nD)

/-- The arguments on device `c`. -/
abbrev feats : FVec Ideal (shape2 320000 128) .f32 := m ((c.tc : Thread nD τ).loc main_arg0)
abbrev coords : IVec (shape2 320000 4) 32 := m ((c.tc : Thread nD τ).loc main_arg1)
abbrev weights : FVec Ideal (shape2 128 3) .f32 := m ((c.tc : Thread nD τ).loc main_arg2)
abbrev bias : FVec Ideal (shape1 3) .f32 := m ((c.tc : Thread nD τ).loc main_arg3)

/-- The rows' hash words on device `c`. -/
abbrev hashes : Fin 320000 → BitVec 32 := hashAt (feats m c) (coords m c) (weights m c) (bias m c)

theorem head_writes : Cert.Words.Writes (hostOps0 : List (HloOp τ sig (Elt Ideal))) [main_v0] := rfl

/-- The bias, as the one-row matrix the first kernel reads. -/
theorem bias_row (a : Fin 3) : V1 m ρ c main_v0 (ix2 0 a) = bias m c (ix1 a) := by
  have e : W1 m ρ c (Proc.devRef .tc main_v0) = shapeCast S1x3 (W1 m ρ c (Proc.devRef .tc main_arg3)) shapeCasts_S3_S1x3 :=
    head_writes.reshape (W0 m ρ c) 0 (x := main_arg3) (y := main_v0) rfl (by decide +kernel) (by decide +kernel)
  refine (congrFun e (ix2 0 a)).trans ((cast12 (a := 1) (b := 3) (n := 3) _ _ 0 a a (by simp)).trans ?_)
  exact congrFun (W1_args m ρ c main_arg3 (by decide)) (ix1 a)

/-- The first kernel's offsets. -/
theorem offs_eq (i : Fin 320000) (a : Fin 3) : offs (V1 m ρ) c i a = offsetAt (feats m c) (weights m c) (bias m c) i a := by
  unfold offs offsetAt
  have e0 : V1 m ρ c main_arg0 = feats m c := W1_args m ρ c main_arg0 (by decide)
  have e2 : V1 m ρ c main_arg2 = weights m c := W1_args m ρ c main_arg2 (by decide)
  have e3 : (fun a : Fin 3 => V1 m ρ c main_v0 (ix2 0 a)) = fun a => bias m c (ix1 a) := funext (bias_row m ρ c)
  rw [e0, e2, e3]

/-- The first kernel's coordinates. -/
theorem crds_eq (i : Fin 320000) : crds (V1 m ρ) c i = coordAt (feats m c) (coords m c) (weights m c) (bias m c) i := by
  funext a
  unfold crds coordAt
  have e1 : V1 m ρ c main_arg1 = coords m c := W1_args m ρ c main_arg1 (by decide)
  have eo : offs (V1 m ρ) c i = offsetAt (feats m c) (weights m c) (bias m c) i := funext (offs_eq m ρ c i)
  rw [e1, eo]

/-- The hashes, as the vector the sort takes. -/
theorem mid_hash (i : Fin 320000) : mid (W2 m ρ c) main_v2 (ix1 i) = hashes m c i := by
  refine (congrFun (mid_main_v2 (W2 m ρ c)) (ix1 i)).trans ?_
  have hi := i.isLt
  refine (cast31 (a := 160) (b := 1) (c := 2000) (n := 320000) _ _ ⟨i.val / 2000, by omega⟩ 0 ⟨i.val % 2000, Nat.mod_lt _ (by decide)⟩ i (by
    show i.val = (i.val / 2000 * 1 + 0) * 2000 + i.val % 2000
    omega)).trans ?_
  refine (congrFun (mid_main_v1_2 (W2 m ρ c)) _).trans ?_
  refine (congrFun ((W2_arr m ρ c 6).trans (hashes_arr (V1 m ρ) c)) _).trans ?_
  refine (congrArg hashOf (crds_eq m ρ c _)).trans ?_
  unfold hashes hashAt
  refine congrArg (fun i => hashOf (coordAt (feats m c) (coords m c) (weights m c) (bias m c) i)) (Fin.ext ?_)
  show i.val / 2000 * 2000 + i.val % 2000 = i.val
  omega

theorem mid_iota (i : Fin 320000) : mid (W2 m ρ c) main_v3 (ix1 i) = BitVec.ofNat 32 i.val :=
  (congrFun (mid_main_v3 (W2 m ρ c)) (ix1 i)).trans (iota_at i)

/-- The sorted hashes and the permutation, between the kernels. -/
theorem mid_sorted (j : Fin 320000) : mid (W2 m ρ c) main_v4_0 (ix1 j) = sortedHash comparator_i32_i32_d0 (hashes m c) j.val :=
  (congrFun (mid_main_v4_0 (W2 m ρ c)) (ix1 j)).trans (sorted_at comparator_i32_i32_d0 (hashes m c) _ _ (mid_hash m ρ c) (mid_iota m ρ c) j).1

theorem mid_perm (j : Fin 320000) : mid (W2 m ρ c) main_v4_1 (ix1 j) = BitVec.ofNat 32 (sorted comparator_i32_i32_d0 (hashes m c) j).val :=
  (congrFun (mid_main_v4_1 (W2 m ρ c)) (ix1 j)).trans (sorted_at comparator_i32_i32_d0 (hashes m c) _ _ (mid_hash m ρ c) (mid_iota m ρ c) j).2

/-- The blocks of sorted hashes that the second kernel reads. -/
theorem mid_keys : Keys (V3 m ρ) c (sortedHash comparator_i32_i32_d0 (hashes m c)) := fun t l => by
  have ht := t.isLt
  have hl := l.isLt
  refine (congrFun (mid_main_v5 (W2 m ρ c)) (ix3 t 0 l)).trans ?_
  refine (cast13 (a := 160) (b := 1) (c := 2000) (n := 320000) _ _ t 0 l ⟨2000 * t.val + l.val, by omega⟩ (by
    show 2000 * t.val + l.val = (t.val * 1 + 0) * 2000 + l.val
    omega)).trans ?_
  exact mid_sorted m ρ c _

/-- The group numbers, after the second kernel. -/
theorem fin_rank (j : Fin 320000) : fin (W4 m ρ c) main_v7 (ix1 j) = BitVec.ofNat 32 (rankAt comparator_i32_i32_d0 (hashes m c) j) := by
  refine (congrFun (fin_main_v7 (W4 m ρ c)) (ix1 j)).trans ?_
  have hj := j.isLt
  refine (cast31 (a := 160) (b := 1) (c := 2000) (n := 320000) _ _ ⟨j.val / 2000, by omega⟩ 0 ⟨j.val % 2000, Nat.mod_lt _ (by decide)⟩ j (by
    show j.val = (j.val / 2000 * 1 + 0) * 2000 + j.val % 2000
    omega)).trans ?_
  refine (congrFun (fin_main_v6 (W4 m ρ c)) _).trans ?_
  refine (congrFun ((W4_arr m ρ c 1).trans (ranks_at _ (mid_keys m ρ c))) _).trans ?_
  unfold rankAt
  refine congrArg (fun q => BitVec.ofNat 32 (group (sortedHash comparator_i32_i32_d0 (hashes m c)) q)) ?_
  show 2000 * (j.val / 2000) + j.val % 2000 = j.val
  omega

/-- The inputs of the operations after the second kernel. -/
theorem inputs : Inputs (W4 m ρ c) (sorted comparator_i32_i32_d0 (hashes m c)) (rankAt comparator_i32_i32_d0 (hashes m c)) where
  lt := rankAt_lt _ _
  perm j := (congrFun ((fin_main_v4_1 (W4 m ρ c)).trans (W4_of m ρ c main_v4_1 (by decide +kernel))) (ix1 j)).trans (mid_perm m ρ c j)
  rank := fin_rank m ρ c

/-- The coordinates, as the operations after the second kernel read them. -/
theorem fin_coords (i : Fin 320000) (a : Fin 4) : fin (W4 m ρ c) main_v1_1 (ix2 i a) = coordAt (feats m c) (coords m c) (weights m c) (bias m c) i a := by
  have e : fin (W4 m ρ c) main_v1_1 = (dat0 (V1 m ρ) c).arrAt 5 cfg0.N :=
    (fin_main_v1_1 (W4 m ρ c)).trans ((W4_of m ρ c main_v1_1 (by decide +kernel)).trans ((W3_of m ρ c main_v1_1 (by decide +kernel)).trans (W2_arr m ρ c 5)))
  refine (congrFun (e.trans (coords_arr (V1 m ρ) c)) (ix2 i a)).trans ?_
  exact congrFun (crds_eq m ρ c i) a

/-- The features, as the operations after the second kernel read them. -/
theorem fin_feats (i : Fin 320000) (a : Fin 128) : entry (n := 320000) (C := 128) (fin (W4 m ρ c) main_arg0) i a = entry (feats m c) i a :=
  congrFun ((fin_main_arg0 (W4 m ρ c)).trans (W4_args m ρ c main_arg0 (by decide))) (ix2 i a)

/-- The first result: the offsets. -/
theorem result_offsets (i : Fin 320000) (a : Fin 3) :
    W5 m ρ c (Proc.devRef .tc main_v1_0) (ix2 i a) = offsetAt (feats m c) (weights m c) (bias m c) i a := by
  have e : W5 m ρ c (Proc.devRef .tc main_v1_0) = (dat0 (V1 m ρ) c).arrAt 4 cfg0.N :=
    (W5_of m ρ c main_v1_0 (by decide +kernel)).trans ((W4_of m ρ c main_v1_0 (by decide +kernel)).trans ((W3_of m ρ c main_v1_0 (by decide +kernel)).trans (W2_arr m ρ c 4)))
  refine (congrFun (e.trans (offsets_arr (V1 m ρ) c)) (ix2 i a)).trans ?_
  exact offs_eq m ρ c i a

/-- The second result: the groups' mean coordinates. -/
theorem result_coords (k : Fin 320000) (a : Fin 4) : W5 m ρ c (Proc.devRef .tc main_v47) (ix2 k a)
    = meanCoord comparator_i32_i32_d0 (hashes m c) (coordAt (feats m c) (coords m c) (weights m c) (bias m c)) k a := by
  exact (at_v47 (inputs m ρ c) k a).trans (meanCoord_of _ _ _ k a _ fun i => fin_coords m ρ c i a)

/-- The third result: the groups' mean features. -/
theorem result_feats (k : Fin 320000) (a : Fin 128) : (W5 m ρ c (Proc.devRef .tc main_v65) (ix2 k a) : EReal)
    = meanFeat comparator_i32_i32_d0 (hashes m c) (entry (feats m c)) k a := by
  exact (at_v65 (inputs m ρ c) k a).trans (meanFeat_of _ _ _ k a _ fun i => fin_feats m ρ c i a)

/-- The fourth result: the group of every row. -/
theorem result_groups (i : Fin 320000) : W5 m ρ c (Proc.devRef .tc main_v15) (ix1 i)
    = BitVec.ofNat 32 (groupAt comparator_i32_i32_d0 (hashes m c) i) :=
  at_v15 (inputs m ρ c) i

end Cert.KernelIdeal.Hand
-- ==== Proof.ReferenceIdeal.Facts.lean ====
module

public import proofs.«01_k».proof.Proof.ReferenceIdeal.Values
public import proofs.«01_k».proof.Proof.Value.Steps
public import proofs.«01_k».proof.Proof.Value.Problem

/-! # The reference's four results

Each theorem reads one of the reference's values at an entry, over the real numbers, up to its results as functions of its
arguments. -/

@[expose] public section

set_option maxRecDepth 16384

noncomputable section

namespace Cert.ReferenceIdeal.Hand

open Cert.ReferenceIdeal Cert.ReferenceIdeal.Gen Cert.Words Idealize.ShloMosaic.TcCoe Idealize.SL.Sem Idealize.ShloMosaic.StableHlo
open Idealize.ShloMosaic hiding ix0 ix1 ix2 ix3
open Idealize.ShloMosaic.ValueIdx Idealize.ShloMosaic.Routing

attribute [local irreducible] Host.scatter Host.scatterAdd Host.gather Host.sort2 Host.reduce Host.reduceWindow Host.reverse transpose
  extractStridedSlice broadcastInDim shapeCast

variable (V : Valuation τ sig (Elt Ideal))

/-- The arguments. -/
abbrev feats : FVec Ideal (shape2 320000 128) .f32 := val V main_arg0
abbrev coords : IVec (shape2 320000 4) 32 := val V main_arg1
abbrev weights : FVec Ideal (shape2 128 3) .f32 := val V main_arg2
abbrev bias : FVec Ideal (shape1 3) .f32 := val V main_arg3

/-- The rows' hash words. -/
abbrev hashes : Fin 320000 → BitVec 32 := hashAt (feats V) (coords V) (weights V) (bias V)

/-! ## Offsets, coordinates, hashes -/

/-- The offsets. -/
theorem at_v3 (i : Fin 320000) (c : Fin 3) : val V main_v3 (ix2 i c) = offsetAt (feats V) (weights V) (bias V) i c := by
  refine (congrFun (val_main_v3 V) (ix2 i c)).trans ?_
  unfold offsetAt offsetOf
  refine congrArg₂ (· + ·) ?_ ?_
  · exact (congrFun (val_main_v0 V) (ix2 i c)).trans (Idealize.ShloMosaic.StackMember.dotGeneral_plain_apply (m := 320000) (n := 3) (k := 128) none _ _ i c)
  · refine (congrFun (val_main_v2 V) (ix2 i c)).trans ((rows_of (n := 320000) (C := 3) _ _ i c).trans ?_)
    exact (congrFun (val_main_v1 V) (ix2 0 c)).trans (row_of (C := 3) _ _ c)

/-- The new coordinates. -/
theorem at_v7 (i : Fin 320000) (a : Fin 4) : val V main_v7 (ix2 i a) = coordAt (feats V) (coords V) (weights V) (bias V) i a := by
  refine (congrFun (val_main_v7 V) (ix2 i a)).trans ?_
  unfold coordAt coordOf
  refine congrArg (coords V (ix2 i a) + ·) ?_
  refine (congrFun (val_main_v6 V) (ix2 i a)).trans ((beside_at (R := 320000) _ _ _ i a).trans ?_)
  by_cases h : a.val < 1
  · rw [dif_pos h, dif_pos h, val_main_v4, val_main_c]
    unfold broadcastInDim
    rfl
  · rw [dif_neg h, dif_neg h]
    refine (congrFun (val_main_v5 V) _).trans ((fptosi_at _ _).trans (congrArg _ ?_))
    exact at_v3 V i _

theorem at_v9 (i : Fin 320000) (a : Fin 4) : val V main_v9 (ix2 i a) = coordAt (feats V) (coords V) (weights V) (bias V) i a + 1024#32 := by
  refine (congrFun (val_main_v9 V) (ix2 i a)).trans ?_
  refine congrArg₂ (· + ·) (at_v7 V i a) ?_
  rw [val_main_v8, val_main_c_0]
  unfold broadcastInDim
  rfl

/-- The factor in the hashes. -/
theorem at_v12 (i : Fin 320000) : val V main_v12 (ix1 i) = 4096#32 := by
  rw [val_main_v12, val_main_c_1]; unfold broadcastInDim; rfl
theorem at_v17 (i : Fin 320000) : val V main_v17 (ix1 i) = 4096#32 := by
  rw [val_main_v17, val_main_c_2]; unfold broadcastInDim; rfl
theorem at_v22 (i : Fin 320000) : val V main_v22 (ix1 i) = 4096#32 := by
  rw [val_main_v22, val_main_c_3]; unfold broadcastInDim; rfl

/-- The columns of the shifted coordinates. -/
theorem at_v11 (i : Fin 320000) : val V main_v11 (ix1 i) = coordAt (feats V) (coords V) (weights V) (bias V) i 0 + 1024#32 := by
  rw [val_main_v11, val_main_v10]
  exact (column_at (R := 320000) (C := 4) _ 0 _ _ i).trans (at_v9 V i 0)
theorem at_v15 (i : Fin 320000) : val V main_v15 (ix1 i) = coordAt (feats V) (coords V) (weights V) (bias V) i 1 + 1024#32 := by
  rw [val_main_v15, val_main_v14]
  exact (column_at (R := 320000) (C := 4) _ 1 _ _ i).trans (at_v9 V i 1)
theorem at_v20 (i : Fin 320000) : val V main_v20 (ix1 i) = coordAt (feats V) (coords V) (weights V) (bias V) i 2 + 1024#32 := by
  rw [val_main_v20, val_main_v19]
  exact (column_at (R := 320000) (C := 4) _ 2 _ _ i).trans (at_v9 V i 2)
theorem at_v25 (i : Fin 320000) : val V main_v25 (ix1 i) = coordAt (feats V) (coords V) (weights V) (bias V) i 3 + 1024#32 := by
  rw [val_main_v25, val_main_v24]
  exact (column_at (R := 320000) (C := 4) _ 3 _ _ i).trans (at_v9 V i 3)

theorem addi_at (x y : IVec (shape1 320000) 32) (i : Fin 320000) : addi x y (ix1 i) = x (ix1 i) + y (ix1 i) := rfl
theorem muli_at (x y : IVec (shape1 320000) 32) (i : Fin 320000) : muli x y (ix1 i) = x (ix1 i) * y (ix1 i) := rfl

/-- The hashes. -/
theorem at_v26 (i : Fin 320000) : val V main_v26 (ix1 i) = hashes V i := by
  have e13 : val V main_v13 (ix1 i) = _ := (congrFun (val_main_v13 V) (ix1 i)).trans ((muli_at _ _ i).trans (congrArg₂ (· * ·) (at_v11 V i) (at_v12 V i)))
  have e16 : val V main_v16 (ix1 i) = _ := (congrFun (val_main_v16 V) (ix1 i)).trans ((addi_at _ _ i).trans (congrArg₂ (· + ·) e13 (at_v15 V i)))
  have e18 : val V main_v18 (ix1 i) = _ := (congrFun (val_main_v18 V) (ix1 i)).trans ((muli_at _ _ i).trans (congrArg₂ (· * ·) e16 (at_v17 V i)))
  have e21 : val V main_v21 (ix1 i) = _ := (congrFun (val_main_v21 V) (ix1 i)).trans ((addi_at _ _ i).trans (congrArg₂ (· + ·) e18 (at_v20 V i)))
  have e23 : val V main_v23 (ix1 i) = _ := (congrFun (val_main_v23 V) (ix1 i)).trans ((muli_at _ _ i).trans (congrArg₂ (· * ·) e21 (at_v22 V i)))
  refine (congrFun (val_main_v26 V) (ix1 i)).trans ((addi_at _ _ i).trans ((congrArg₂ (fun a b : BitVec 32 => a + b) e23 (at_v25 V i)).trans ?_))
  unfold hashes hashAt hashOf
  exact Eq.refl _

/-! ## Sorting -/

/-- The words the sort takes. -/
theorem at_keys (i : Fin 320000) : val V main_call0_call0_v1 (ix1 i) = hashes V i := by
  rw [val_main_call0_call0_v1, val_main_call0_call0_v0, val_main_call0_v2, val_main_call0_v1, val_main_call0_v0]
  exact (turned_at (n := 320000) _ _ _ _ _ i).trans (at_v26 V i)

theorem at_iota (i : Fin 320000) : val V main_call0_call0_v2 (ix1 i) = BitVec.ofNat 32 i.val :=
  (congrFun (val_main_call0_call0_v2 V) (ix1 i)).trans (iota_at i)

/-- The sorting permutation. -/
abbrev perm : Fin 320000 ≃ Fin 320000 := sorted comparator_i32_i32_d0 (hashes V)

theorem perm_lt (j : Fin 320000) : (perm V j).val < 2 ^ 31 := lt_trans (perm V j).isLt (by decide)

theorem at_v27_2 (j : Fin 320000) : val V main_v27_2 (ix1 j) = BitVec.ofNat 32 (perm V j).val :=
  (congrFun (val_main_v27_2 V) (ix1 j)).trans (sorted_at comparator_i32_i32_d0 (hashes V) _ _ (at_keys V) (at_iota V) j).2

theorem at_call0_v9 (j : Fin 320000) : val V main_call0_v9 (ix2 j 0) = BitVec.ofNat 32 (perm V j).val := by
  rw [val_main_call0_v9, val_main_call0_v8, val_main_call0_v5]
  exact wrapped_at (n := 320000) _ _ _ _ j (by rw [val_main_call0_v4, val_main_call0_c]; unfold broadcastInDim; rfl) (at_v27_2 V j) (perm_lt V j)

theorem at_v70 (j : Fin 320000) : val V main_v70 (ix2 j 0) = BitVec.ofNat 32 (perm V j).val := by
  rw [val_main_v70, val_main_v69, val_main_v66]
  exact wrapped_at (n := 320000) _ _ _ _ j (by rw [val_main_v65, val_main_c_18]; unfold broadcastInDim; rfl) (at_v27_2 V j) (perm_lt V j)

/-- The hashes in sorted order. -/
abbrev keys : ℕ → BitVec 32 := sortedHash comparator_i32_i32_d0 (hashes V)

theorem at_v27_0 (j : Fin 320000) : val V main_v27_0 (ix1 j) = keys V j.val := by
  refine (congrFun (val_main_v27_0 V) (ix1 j)).trans ?_
  refine (gather_take1 (N := 320000) (n := 320000) _ rfl rfl rfl rfl _ _ j (perm V j) (at_call0_v9 V j) (by decide)).trans ?_
  exact (at_v26 V _).trans (sortedHash_at _ _ j).symm

/-! ## Numbering the groups -/

/-- The flags of the positions after the first. -/
theorem at_call0_v15 (j : Fin 319999) :
    val V main_call0_v15 (ix1 j) = IntOp.ori 0#1 (IntOp.cmpi .ne (keys V (j.val + 1)) (keys V j.val)) := by
  have hj := j.isLt
  refine (congrFun (val_main_call0_v15 V) (ix1 j)).trans ((reduce_none_at (n := 319999) _ _ _ _ _ _).trans ?_)
  refine congrArg₂ IntOp.ori (by rw [val_main_call0_c_2]; rfl) ?_
  refine (congrFun (val_main_call0_v14 V) (ix1 j)).trans ?_
  refine congrArg₂ (IntOp.cmpi .ne) ?_ ?_
  · refine (congrFun (val_main_call0_v12 V) (ix1 j)).trans ((slice1 (m := 320000) (n := 319999) 1 _ _ j (by omega)).trans ?_)
    refine (at_v27_0 V _).trans (congrArg (keys V) ?_)
    exact Nat.add_comm _ _
  · refine (congrFun (val_main_call0_v13 V) (ix1 j)).trans ((slice1 (m := 320000) (n := 319999) 0 _ _ j (by omega)).trans ?_)
    refine (at_v27_0 V _).trans (congrArg (keys V) ?_)
    exact Nat.zero_add _

/-- The flags, as words. -/
theorem at_call7_v0 (j : Fin 320000) : val V main_call7_v0 (ix1 j) = BitVec.ofNat 32 (mark (keys V) j.val) := by
  refine (congrFun (val_main_call7_v0 V) (ix1 j)).trans ?_
  have e : val V main_v27_1 (ix1 j) = _ := (congrFun (val_main_v27_1 V) (ix1 j)).trans
    (after_first_at (n := 319999) (N := 320000) rfl scatter_S320000_S1_S319999_0_n_0_0_wf _ _
      (by rw [val_main_call0_v16, val_main_call0_c_3]; unfold broadcastInDim; rfl) _ j)
  refine flag_word (keys V) j.val _ (fun h => ?_) fun h => ?_
  · refine e.trans ((dif_neg h).trans ((at_call0_v15 V _).trans ?_))
    rw [show j.val - 1 + 1 = j.val by omega]
  · refine e.trans ((dif_pos h).trans ?_)
    rw [val_main_call0_v11, val_main_call0_c_1]
    unfold broadcastInDim
    rfl

/-- The group number of each sorted position. -/
abbrev rank : Fin 320000 → ℕ := rankAt comparator_i32_i32_d0 (hashes V)

theorem rank_lt (j : Fin 320000) : rank V j < 320000 := rankAt_lt _ _ j

theorem at_v63 (j : Fin 320000) : val V main_v63 (ix1 j) = BitVec.ofNat 32 (rank V j) := by
  refine (congrFun (val_main_v63 V) (ix1 j)).trans ?_
  have e : val V main_v61 (ix1 j) = ∑ i ∈ Finset.range (j.val + 1), BitVec.ofNat 32 (mark (keys V) i) := by
    refine (congrFun (val_main_v61 V) (ix1 j)).trans ?_
    refine (cumsum_vec (N := 320000) (Nm1 := 319999) rfl _ _ (by rw [val_main_call7_call0_v0, val_main_call7_call0_c]; unfold broadcastInDim; rfl) _ _ j).trans ?_
    refine Eq.trans (Finset.sum_congr rfl fun i _ => ?_) (sum_upto (n := 320000) (fun q => BitVec.ofNat 32 (mark (keys V) q)) j)
    exact congrArg (fun z => if i ≤ j then z else 0) (at_call7_v0 V i)
  refine Eq.trans (congrArg₂ (· - ·) e ?_) (group_word (keys V) j.val)
  rw [val_main_v62, val_main_c_16]
  unfold broadcastInDim
  rfl

/-- The group of every row. -/
theorem at_v71 (i : Fin 320000) : val V main_v71 (ix1 i) = BitVec.ofNat 32 (groupOf (perm V) (rank V) i) := by
  refine (congrFun (val_main_v71 V) (ix1 i)).trans ?_
  exact inverse_at (n := 320000) (perm V) (rank V) (by decide) _ rfl rfl rfl _ _ _ (at_v70 V) (at_v63 V) i

end Cert.ReferenceIdeal.Hand
-- ==== Proof.ReferenceIdeal.Results.lean ====
module

public import proofs.«01_k».proof.Proof.ReferenceIdeal.Facts

/-! # The reference's means

The groups' sizes, their mean coordinates and their mean features, from the group of every row. -/

@[expose] public section

set_option maxRecDepth 16384

noncomputable section

namespace Cert.ReferenceIdeal.Hand

open Cert.ReferenceIdeal Cert.ReferenceIdeal.Gen Cert.Words Idealize.ShloMosaic.TcCoe Idealize.SL.Sem Idealize.ShloMosaic.StableHlo
open Idealize.ShloMosaic hiding ix0 ix1 ix2 ix3
open Idealize.ShloMosaic.ValueIdx Idealize.ShloMosaic.Routing

attribute [local irreducible] Host.scatter Host.scatterAdd Host.gather Host.sort2 Host.reduce Host.reduceWindow Host.reverse transpose
  extractStridedSlice broadcastInDim shapeCast

variable (V : Valuation τ sig (Elt Ideal))

/-- The group of every row. -/
abbrev grp : Fin 320000 → ℕ := groupOf (perm V) (rank V)

theorem grp_lt (i : Fin 320000) : grp V i < 320000 := rank_lt V _
theorem grp_lt' (i : Fin 320000) : grp V i < 2 ^ 31 := lt_trans (grp_lt V i) (by decide)
theorem size_lt (k : ℕ) : size (rank V) k < 2 ^ 31 := lt_of_le_of_lt (size_le (rank V) k) (by decide)

/-- The groups, kept from being negative. -/
theorem at_v73 (i : Fin 320000) : val V main_v73 (ix1 i) = BitVec.ofNat 32 (grp V i) := by
  refine (congrFun (val_main_v73 V) (ix1 i)).trans ?_
  have e : val V main_call8_v1 (ix1 i) = 0#32 := by
    rw [val_main_call8_v1, val_main_call8_v0, val_main_c_21]
    unfold broadcastInDim
    rfl
  exact (congrArg₂ IntOp.maxsi e (at_v71 V i)).trans (maxsi_zero (grp_lt' V i))

theorem at_v79 (i : Fin 320000) : val V main_v79 (ix2 i 0) = BitVec.ofNat 32 (grp V i) := by
  rw [val_main_v79, val_main_v78, val_main_v75]
  exact wrapped_at (n := 320000) _ _ _ _ i (by rw [val_main_v74, val_main_c_22]; unfold broadcastInDim; rfl) (at_v73 V i) (grp_lt' V i)

/-- The groups' sizes. -/
theorem at_v81 (k : Fin 320000) : val V main_v81 (ix1 k) = BitVec.ofNat 32 (size (rank V) k.val) := by
  rw [val_main_v81, ← size_groupOf (perm V) (rank V)]
  refine count_at (n := 320000) (by decide) _ rfl rfl rfl _ _ _ (grp V) (grp_lt V) (fun k => ?_) (at_v79 V) (fun k => ?_) k
  · rw [val_main_v72, val_main_c_20]; unfold broadcastInDim; rfl
  · rw [val_main_v80, val_main_c_24]; unfold broadcastInDim; rfl

/-- The divisors of the coordinates: the groups' sizes, one for an empty group. -/
theorem at_v84 (k : Fin 320000) : (val V main_v84 (ix1 k) : EReal) = real (max (size (rank V) k.val) 1) := by
  have e1 : val V main_v82 (ix1 k) = 1#32 := by rw [val_main_v82, val_main_c_25]; unfold broadcastInDim; rfl
  have e83 : val V main_v83 (ix1 k) = BitVec.ofNat 32 (max (size (rank V) k.val) 1) :=
    (congrFun (val_main_v83 V) (ix1 k)).trans ((congrArg₂ IntOp.maxsi (at_v81 V k) e1).trans (maxsi_one (size_lt V k.val)))
  refine (congrFun (val_main_v84 V) (ix1 k)).trans ((sitofp_at _ _).trans ((congrArg _ e83).trans ?_))
  exact sitofp_ofNat (max_lt (size_lt V k.val) (by decide))

theorem at_v87 (i : Fin 320000) : val V main_v87 (ix2 i 0) = BitVec.ofNat 32 (grp V i) := by
  rw [val_main_v87]
  exact (column_of (n := 320000) _ _ i).trans (at_v71 V i)

theorem at_v105 (i : Fin 320000) : val V main_v105 (ix2 i 0) = BitVec.ofNat 32 (grp V i) := by
  rw [val_main_v105]
  exact (column_of (n := 320000) _ _ i).trans (at_v71 V i)

theorem at_v90 (k : Fin 320000) (a : Fin 4) : (val V main_v90 (ix2 k a) : EReal) = real (max (size (rank V) k.val) 1) := by
  rw [val_main_v90, val_main_v89]
  exact (columns_of (n := 320000) (C := 4) _ _ k a).trans ((column_of (n := 320000) _ _ k).trans (at_v84 V k))

/-- The groups' sums of coordinates. -/
theorem at_v88 (k : Fin 320000) (a : Fin 4) : (val V main_v88 (ix2 k a) : EReal)
    = ∑ i : Fin 320000, if grp V i = k.val then (FloatOps.sitofp (F := Ideal) .f32 (val V main_v7 (ix2 i a)) : EReal) else 0 := by
  rw [val_main_v88]
  refine (rows_sum_at (n := 320000) (C := 4) (by decide) _ _ _ _ (grp V) (grp_lt V) (fun k c => ?_) (at_v87 V) k a).trans ?_
  · rw [val_main_v86, val_main_cst]; unfold broadcastInDim; exact Ideal.ofBits_zero (φ := .f32)
  · refine Finset.sum_congr rfl fun i _ => congrArg (fun z : EReal => if grp V i = k.val then z else 0) ?_
    exact (congrFun (val_main_v85 V) (ix2 i a)).trans (sitofp_at _ _)

/-- The second result: the groups' mean coordinates. -/
theorem result_coords (k : Fin 320000) (a : Fin 4) : val V main_v92 (ix2 k a)
    = meanCoord comparator_i32_i32_d0 (hashes V) (coordAt (feats V) (coords V) (weights V) (bias V)) k a := by
  refine (congrFun (val_main_v92 V) (ix2 k a)).trans ((fptosi_at _ _).trans ?_)
  have e := (congrFun (val_main_v91 V) (ix2 k a)).trans ((divf_at _ _ _).trans (congrArg₂ Ideal.div (at_v88 V k a) (at_v90 V k a)))
  refine (congrArg _ e).trans ?_
  exact meanCoord_of comparator_i32_i32_d0 (hashes V) (coordAt (feats V) (coords V) (weights V) (bias V)) k a _ fun i => at_v7 V i a

/-- The size of every row's group. -/
theorem at_v99 (i : Fin 320000) : val V main_v99 (ix1 i) = BitVec.ofNat 32 (size (rank V) (grp V i)) := by
  have e : val V main_v98 (ix2 i 0) = BitVec.ofNat 32 (grp V i) := by
    rw [val_main_v98, val_main_v97, val_main_v94]
    exact wrapped_at (n := 320000) _ _ _ _ i (by rw [val_main_v93, val_main_c_26]; unfold broadcastInDim; rfl) (at_v71 V i) (grp_lt' V i)
  refine (congrFun (val_main_v99 V) (ix1 i)).trans ?_
  refine (gather_take1 (N := 320000) (n := 320000) _ rfl rfl rfl rfl _ _ i ⟨grp V i, grp_lt V i⟩ e (by decide)).trans ?_
  exact at_v81 V ⟨grp V i, grp_lt V i⟩

/-- Every row's features, divided by the size of its group. -/
theorem at_v103 (i : Fin 320000) (c : Fin 128) : (val V main_v103 (ix2 i c) : EReal)
    = Ideal.div (entry (feats V) i c) (real (size (rank V) (grp V i))) := by
  refine (congrFun (val_main_v103 V) (ix2 i c)).trans ((divf_at _ _ _).trans (congrArg (Ideal.div _) ?_))
  rw [val_main_v102]
  refine (columns_of (n := 320000) (C := 128) _ _ i c).trans ?_
  refine (congrFun (val_main_v101 V) (ix2 i 0)).trans ((sitofp_at _ _).trans ?_)
  have e : val V main_v100 (ix2 i 0) = BitVec.ofNat 32 (size (rank V) (grp V i)) := by
    rw [val_main_v100]
    exact (column_of (n := 320000) _ _ i).trans (at_v99 V i)
  exact (congrArg _ e).trans (sitofp_ofNat (size_lt V _))

/-- The third result: the groups' mean features. -/
theorem result_feats (k : Fin 320000) (c : Fin 128) : (val V main_v106 (ix2 k c) : EReal)
    = meanFeat comparator_i32_i32_d0 (hashes V) (entry (feats V)) k c := by
  rw [val_main_v106]
  refine (rows_sum_at (n := 320000) (C := 128) (by decide) _ _ _ _ (grp V) (grp_lt V) (fun k c => ?_) (at_v105 V) k c).trans ?_
  · rw [val_main_v104, val_main_cst_28]; unfold broadcastInDim; exact Ideal.ofBits_zero (φ := .f32)
  · refine Eq.trans (Finset.sum_congr rfl fun i _ => congrArg (fun z : EReal => if grp V i = k.val then z else 0) (at_v103 V i c)) ?_
    exact meanFeat_of comparator_i32_i32_d0 (hashes V) (entry (feats V)) k c (fun i => entry (feats V) i c) fun _ => rfl

end Cert.ReferenceIdeal.Hand
-- ==== Proof.Agree.lean ====
module

public import proofs.«01_k».proof.Defs
public import proofs.«01_k».proof.Proof.KernelIdeal.Results
public import proofs.«01_k».proof.Proof.ReferenceIdeal.Results
public import proofs.«01_k».proof.Proof.ReferenceIdeal.Frame

/-! # The kernel program and the reference leave equal results

From equal arguments, each of the four results of the reference equals the kernel program's, entry by entry, over the real
numbers. -/

@[expose] public section

set_option maxRecDepth 16384

noncomputable section

namespace Cert.Agree

open Cert.Words Idealize.ShloMosaic.TcCoe Idealize.SL.Sem Idealize.ShloMosaic.StableHlo
open Idealize.ShloMosaic hiding ix0 ix1 ix2 ix3
open Idealize.ShloMosaic.ValueIdx Idealize.ShloMosaic.Routing

/-- Two matrices with equal entries are equal. -/
theorem ext2 {α : Type} {A B : ℕ} {f g : (shape2 A B).Idx → α} (h : ∀ a b, f (ix2 a b) = g (ix2 a b)) : f = g := by
  funext i
  rw [ValueIdx.eq_ix2 i]
  exact h _ _

/-- Two vectors with equal entries are equal. -/
theorem ext1 {α : Type} {A : ℕ} {f g : (shape1 A).Idx → α} (h : ∀ a, f (ix1 a) = g (ix1 a)) : f = g := by
  funext i
  have e : i = ix1 (i 0) := funext fun a => by
    match a with
    | ⟨0, _⟩ => rfl
  rw [e]
  exact h _

/-- The two programs' sorts compare alike. -/
theorem compare_eq : Cert.ReferenceIdeal.comparator_i32_i32_d0 = Cert.KernelIdeal.comparator_i32_i32_d0 := rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two launches hold equal arguments on device `c`. -/
structure Same : Prop where
  feats : Cert.ReferenceIdeal.Hand.feats (launchContents m' c) = Cert.KernelIdeal.Hand.feats m c
  coords : Cert.ReferenceIdeal.Hand.coords (launchContents m' c) = Cert.KernelIdeal.Hand.coords m c
  weights : Cert.ReferenceIdeal.Hand.weights (launchContents m' c) = Cert.KernelIdeal.Hand.weights m c
  bias : Cert.ReferenceIdeal.Hand.bias (launchContents m' c) = Cert.KernelIdeal.Hand.bias m c

variable {m m' c} (h : Same m m' c)
include h

theorem hashes_eq : Cert.ReferenceIdeal.Hand.hashes (launchContents m' c) = Cert.KernelIdeal.Hand.hashes m c := by
  unfold Cert.ReferenceIdeal.Hand.hashes Cert.KernelIdeal.Hand.hashes
  rw [h.feats, h.coords, h.weights, h.bias]

/-- The offsets agree. -/
theorem offsets_eq (i : Fin 320000) (a : Fin 3) :
    Cert.ReferenceIdeal.Hand.val (F := Ideal) (launchContents m' c) Cert.ReferenceIdeal.main_v3 (ix2 i a)
      = Cert.KernelIdeal.Hand.W5 m ρ c (Proc.devRef .tc Cert.KernelIdeal.main_v1_0) (ix2 i a) := by
  refine (Cert.ReferenceIdeal.Hand.at_v3 _ i a).trans (Eq.trans ?_ (Cert.KernelIdeal.Hand.result_offsets m ρ c i a).symm)
  rw [h.feats, h.weights, h.bias]

/-- The mean coordinates agree. -/
theorem coords_eq (k : Fin 320000) (a : Fin 4) :
    Cert.ReferenceIdeal.Hand.val (F := Ideal) (launchContents m' c) Cert.ReferenceIdeal.main_v92 (ix2 k a)
      = Cert.KernelIdeal.Hand.W5 m ρ c (Proc.devRef .tc Cert.KernelIdeal.main_v47) (ix2 k a) := by
  refine (Cert.ReferenceIdeal.Hand.result_coords _ k a).trans (Eq.trans ?_ (Cert.KernelIdeal.Hand.result_coords m ρ c k a).symm)
  rw [hashes_eq h, h.feats, h.coords, h.weights, h.bias, compare_eq]

/-- The mean features agree. -/
theorem feats_eq (k : Fin 320000) (a : Fin 128) :
    (Cert.ReferenceIdeal.Hand.val (F := Ideal) (launchContents m' c) Cert.ReferenceIdeal.main_v106 (ix2 k a) : EReal)
      = Cert.KernelIdeal.Hand.W5 m ρ c (Proc.devRef .tc Cert.KernelIdeal.main_v65) (ix2 k a) := by
  refine (Cert.ReferenceIdeal.Hand.result_feats _ k a).trans (Eq.trans ?_ (Cert.KernelIdeal.Hand.result_feats m ρ c k a).symm)
  rw [hashes_eq h, h.feats, compare_eq]

/-- The groups of the rows agree. -/
theorem groups_eq (i : Fin 320000) :
    Cert.ReferenceIdeal.Hand.val (F := Ideal) (launchContents m' c) Cert.ReferenceIdeal.main_v71 (ix1 i)
      = Cert.KernelIdeal.Hand.W5 m ρ c (Proc.devRef .tc Cert.KernelIdeal.main_v15) (ix1 i) := by
  refine (Cert.ReferenceIdeal.Hand.at_v71 _ i).trans (Eq.trans ?_ (Cert.KernelIdeal.Hand.result_groups m ρ c i).symm)
  unfold groupAt Cert.ReferenceIdeal.Hand.perm Cert.ReferenceIdeal.Hand.rank
  rw [hashes_eq h, compare_eq]

omit h in
/-- From equal arguments both programs end with equal results and their arguments unchanged. -/
theorem algebraic : Cert.algebraic_KernelIdeal_ReferenceIdeal := by
  intro m g m' g' _ hargs
  have hs : ∀ c, Same m m' c := fun c => by
    obtain ⟨h0, h1, h2, h3⟩ := hargs c
    exact ⟨(Cert.ReferenceIdeal.Hand.val_main_arg0 _).trans h0, (Cert.ReferenceIdeal.Hand.val_main_arg1 _).trans h1,
      (Cert.ReferenceIdeal.Hand.val_main_arg2 _).trans h2, (Cert.ReferenceIdeal.Hand.val_main_arg3 _).trans h3⟩
  refine ⟨_, _, _, _, Cert.KernelIdeal.Hand.run_values m g, θ_run_mono (Cert.ReferenceIdeal.Hand.run_values m' g') fun r hr c => ?_⟩
  obtain ⟨r0, r1, r2, r3, ra⟩ := hr c
  exact ⟨r0.trans (ext2 (offsets_eq g (hs c))), r1.trans (ext2 (coords_eq g (hs c))), r2.trans (ext2 (feats_eq g (hs c))),
    r3.trans (ext1 (groups_eq g (hs c))), ra⟩

end Cert.Agree
-- ==== Proof.lean ====
module

public import proofs.«01_k».proof.Defs
public import proofs.«01_k».proof.Proof.Kernel.Run
public import proofs.«01_k».proof.Proof.KernelIdeal.Run
public import proofs.«01_k».proof.Proof.ReferenceIdeal.Frame
public import proofs.«01_k».proof.Proof.Agree

/-! # The certificate

The frames of the kernel program, of its idealization and of the reference; the idealization, which replaces nothing; and the
equality of the results over the real numbers. -/

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Hand.frame m g, trivial, Cert.Agree.algebraic⟩

end Cert.Proof

end
